-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1792x1024 : Shape := ⟨2, ![1792, 1024]⟩
abbrev S36 : Shape := ⟨1, ![36]⟩
abbrev S_ : Shape := ⟨0, ![]⟩
abbrev S1x256x512 : Shape := ⟨3, ![1, 256, 512]⟩
abbrev S256x512 : Shape := ⟨2, ![256, 512]⟩
abbrev S1 : Shape := ⟨1, ![1]⟩
abbrev S1x128x512 : Shape := ⟨3, ![1, 128, 512]⟩
abbrev S128x512 : Shape := ⟨2, ![128, 512]⟩
abbrev S64x512 : Shape := ⟨2, ![64, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1792x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_12 : BitVec 32 := 1#32
  let v18 : BitVec 32 := Scalar.muli v17 c1_i32_12
  let v19 : BitVec 32 := Scalar.addi c0_i32_13 v18
  v19.toNat
def k0_off1 (d0 : Dev nD) : Fin 3 → Nat :=
  let c0 : Index := 0#32
  let c0_i32_18 : BitVec 32 := 0#32
  let c1_i32_16 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v22 : BitVec 32 := Scalar.subi c1_i32_16 v5
  let c256_i32_17 : BitVec 32 := 256#32
  let v23 : BitVec 32 := Scalar.muli v22 c256_i32_17
  let v24 : BitVec 32 := Scalar.addi c0_i32_18 v23
  let v25 : Index := Scalar.indexCast v24
  let c0_19 : Index := 0#32
  ![0, v25.toNat, 0]
def k0_off2 (d0 : Dev nD) : Fin 2 → Nat :=
  let c0_i32_18 : BitVec 32 := 0#32
  let c1_i32_16 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v22 : BitVec 32 := Scalar.subi c1_i32_16 v5
  let c256_i32_17 : BitVec 32 := 256#32
  let v23 : BitVec 32 := Scalar.muli v22 c256_i32_17
  let v24 : BitVec 32 := Scalar.addi c0_i32_18 v23
  let v28 : Index := Scalar.indexCast v24
  let c0_20 : Index := 0#32
  ![v28.toNat, 0]
def k0_off3 (d0 : Dev nD) : Fin 2 → Nat :=
  let c0_i32_18 : BitVec 32 := 0#32
  let c1_i32_16 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v22 : BitVec 32 := Scalar.subi c1_i32_16 v5
  let c256_i32_17 : BitVec 32 := 256#32
  let v23 : BitVec 32 := Scalar.muli v22 c256_i32_17
  let v24 : BitVec 32 := Scalar.addi c0_i32_18 v23
  let c0_i32_28 : BitVec 32 := 0#32
  ![v24.toNat, 0]
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.xori v2 c1_i32_21
  let c1_i32_24 : BitVec 32 := 1#32
  let v33 : BitVec 32 := Scalar.muli v32 c1_i32_24
  let v34 : BitVec 32 := Scalar.addi c0_i32_25 v33
  v34.toNat
def k0_off4 (d0 : Dev nD) (c512_i32_31 : BitVec 32) (c1_i32_2 : BitVec 32) : Fin 3 → Nat :=
  let c0_32 : Index := 0#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v43 : BitVec 32 := Scalar.subi c1_i32_29 v7
  let c128_i32_30 : BitVec 32 := 128#32
  let v44 : BitVec 32 := Scalar.muli v43 c128_i32_30
  let v45 : BitVec 32 := Scalar.addi c512_i32_31 v44
  let v46 : Index := Scalar.indexCast v45
  let c0_33 : Index := 0#32
  ![0, v46.toNat, 0]
def k0_off4_at (r : Fin 2) : BitVec 32 × BitVec 32 :=
  if r.val < 1 then
    (512#32, 1#32)
  else
    (768#32, 2#32)
def k0_off5 (d0 : Dev nD) (c512_i32_31 : BitVec 32) (c1_i32_2 : BitVec 32) : Fin 2 → Nat :=
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v43 : BitVec 32 := Scalar.subi c1_i32_29 v7
  let c128_i32_30 : BitVec 32 := 128#32
  let v44 : BitVec 32 := Scalar.muli v43 c128_i32_30
  let v45 : BitVec 32 := Scalar.addi c512_i32_31 v44
  let v49 : Index := Scalar.indexCast v45
  let c0_34 : Index := 0#32
  ![v49.toNat, 0]
def k0_off5_at (r : Fin 2) : BitVec 32 × BitVec 32 :=
  if r.val < 1 then
    (512#32, 1#32)
  else
    (768#32, 2#32)
def k0_off6 (d0 : Dev nD) (c512_i32_31 : BitVec 32) (c1_i32_2 : BitVec 32) : Fin 2 → Nat :=
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v43 : BitVec 32 := Scalar.subi c1_i32_29 v7
  let c128_i32_30 : BitVec 32 := 128#32
  let v44 : BitVec 32 := Scalar.muli v43 c128_i32_30
  let v45 : BitVec 32 := Scalar.addi c512_i32_31 v44
  let c0_i32_41 : BitVec 32 := 0#32
  ![v45.toNat, 0]
def k0_off6_at (r : Fin 2) : BitVec 32 × BitVec 32 :=
  if r.val < 1 then
    (512#32, 1#32)
  else
    (768#32, 2#32)
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_35 : BitVec 32 := 3#32
  let v53 : BitVec 32 := Scalar.xori v2 c3_i32_35
  let c1_i32_38 : BitVec 32 := 1#32
  let v54 : BitVec 32 := Scalar.muli v53 c1_i32_38
  let v55 : BitVec 32 := Scalar.addi c0_i32_39 v54
  v55.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_49 : BitVec 32 := 4#32
  let v74 : BitVec 32 := Scalar.xori v2 c4_i32_49
  let c1_i32_52 : BitVec 32 := 1#32
  let v75 : BitVec 32 := Scalar.muli v74 c1_i32_52
  let v76 : BitVec 32 := Scalar.addi c0_i32_53 v75
  v76.toNat
def k0_off7 (d0 : Dev nD) : Fin 3 → Nat :=
  let c0_61 : Index := 0#32
  let c0_i32_60 : BitVec 32 := 0#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v85 : BitVec 32 := Scalar.subi c1_i32_58 v5
  let c256_i32_59 : BitVec 32 := 256#32
  let v86 : BitVec 32 := Scalar.muli v85 c256_i32_59
  let v87 : BitVec 32 := Scalar.addi c0_i32_60 v86
  let v88 : Index := Scalar.indexCast v87
  let c512 : Index := 512#32
  ![0, v88.toNat, 512]
def k0_off8 (d0 : Dev nD) : Fin 2 → Nat :=
  let c0_i32_60 : BitVec 32 := 0#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v85 : BitVec 32 := Scalar.subi c1_i32_58 v5
  let c256_i32_59 : BitVec 32 := 256#32
  let v86 : BitVec 32 := Scalar.muli v85 c256_i32_59
  let v87 : BitVec 32 := Scalar.addi c0_i32_60 v86
  let v91 : Index := Scalar.indexCast v87
  let c512_62 : Index := 512#32
  ![v91.toNat, 512]
def k0_off9 (d0 : Dev nD) : Fin 2 → Nat :=
  let c0_i32_60 : BitVec 32 := 0#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v85 : BitVec 32 := Scalar.subi c1_i32_58 v5
  let c256_i32_59 : BitVec 32 := 256#32
  let v86 : BitVec 32 := Scalar.muli v85 c256_i32_59
  let v87 : BitVec 32 := Scalar.addi c0_i32_60 v86
  let c512_i32_69 : BitVec 32 := 512#32
  ![v87.toNat, 512]
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.xori v2 c1_i32_63
  let c1_i32_66 : BitVec 32 := 1#32
  let v96 : BitVec 32 := Scalar.muli v95 c1_i32_66
  let v97 : BitVec 32 := Scalar.addi c0_i32_67 v96
  v97.toNat
def k0_off10 (d0 : Dev nD) (c512_i32_74 : BitVec 32) (c1_i32_2 : BitVec 32) : Fin 3 → Nat :=
  let c0_75 : Index := 0#32
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v106 : BitVec 32 := Scalar.subi c1_i32_72 v7
  let c128_i32_73 : BitVec 32 := 128#32
  let v107 : BitVec 32 := Scalar.muli v106 c128_i32_73
  let v108 : BitVec 32 := Scalar.addi c512_i32_74 v107
  let v109 : Index := Scalar.indexCast v108
  let c512_76 : Index := 512#32
  ![0, v109.toNat, 512]
def k0_off10_at (r : Fin 2) : BitVec 32 × BitVec 32 :=
  if r.val < 1 then
    (512#32, 1#32)
  else
    (768#32, 2#32)
def k0_off11 (d0 : Dev nD) (c512_i32_74 : BitVec 32) (c1_i32_2 : BitVec 32) : Fin 2 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v106 : BitVec 32 := Scalar.subi c1_i32_72 v7
  let c128_i32_73 : BitVec 32 := 128#32
  let v107 : BitVec 32 := Scalar.muli v106 c128_i32_73
  let v108 : BitVec 32 := Scalar.addi c512_i32_74 v107
  let v112 : Index := Scalar.indexCast v108
  let c512_77 : Index := 512#32
  ![v112.toNat, 512]
def k0_off11_at (r : Fin 2) : BitVec 32 × BitVec 32 :=
  if r.val < 1 then
    (512#32, 1#32)
  else
    (768#32, 2#32)
def k0_off12 (d0 : Dev nD) (c512_i32_74 : BitVec 32) (c1_i32_2 : BitVec 32) : Fin 2 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v106 : BitVec 32 := Scalar.subi c1_i32_72 v7
  let c128_i32_73 : BitVec 32 := 128#32
  let v107 : BitVec 32 := Scalar.muli v106 c128_i32_73
  let v108 : BitVec 32 := Scalar.addi c512_i32_74 v107
  let c512_i32_84 : BitVec 32 := 512#32
  ![v108.toNat, 512]
def k0_off12_at (r : Fin 2) : BitVec 32 × BitVec 32 :=
  if r.val < 1 then
    (512#32, 1#32)
  else
    (768#32, 2#32)
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_78 : BitVec 32 := 3#32
  let v116 : BitVec 32 := Scalar.xori v2 c3_i32_78
  let c1_i32_81 : BitVec 32 := 1#32
  let v117 : BitVec 32 := Scalar.muli v116 c1_i32_81
  let v118 : BitVec 32 := Scalar.addi c0_i32_82 v117
  v118.toNat
def k0_dev9 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v137 : BitVec 32 := Scalar.xori v2 c4_i32_93
  let c1_i32_95 : BitVec 32 := 1#32
  let v138 : BitVec 32 := Scalar.muli v137 c1_i32_95
  let v139 : BitVec 32 := Scalar.addi c0_i32_96 v138
  v139.toNat
def k0_off13 (d0 : Dev nD) : Fin 3 → Nat :=
  let c0_99 : Index := 0#32
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let v146 : Index := Scalar.indexCast v21
  let c0_100 : Index := 0#32
  ![0, v146.toNat, 0]
def k0_off14 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let v149 : Index := Scalar.indexCast v21
  let c0_101 : Index := 0#32
  ![v149.toNat, 0]
def k0_off15 (d0 : Dev nD) (c512_i32 : BitVec 32) (c1_i32_2 : BitVec 32) : Fin 3 → Nat :=
  let c0_102 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let v153 : Index := Scalar.indexCast v42
  let c0_103 : Index := 0#32
  ![0, v153.toNat, 0]
def k0_off15_at (r : Fin 2) : BitVec 32 × BitVec 32 :=
  if r.val < 1 then
    (512#32, 1#32)
  else
    (768#32, 2#32)
def k0_off16 (d0 : Dev nD) (c512_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let v156 : Index := Scalar.indexCast v42
  let c0_104 : Index := 0#32
  ![v156.toNat, 0]
def k0_off16_at (r : Fin 2) : BitVec 32 × BitVec 32 :=
  if r.val < 1 then
    (512#32, 1#32)
  else
    (768#32, 2#32)
def k0_off17 (d0 : Dev nD) : Fin 3 → Nat :=
  let c0_108 : Index := 0#32
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let v167 : Index := Scalar.indexCast v84
  let c512_109 : Index := 512#32
  ![0, v167.toNat, 512]
def k0_off18 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let v170 : Index := Scalar.indexCast v84
  let c512_110 : Index := 512#32
  ![v170.toNat, 512]
def k0_off19 (d0 : Dev nD) (c512_i32_71 : BitVec 32) (c1_i32_2 : BitVec 32) : Fin 3 → Nat :=
  let c0_111 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let v174 : Index := Scalar.indexCast v105
  let c512_112 : Index := 512#32
  ![0, v174.toNat, 512]
def k0_off19_at (r : Fin 2) : BitVec 32 × BitVec 32 :=
  if r.val < 1 then
    (512#32, 1#32)
  else
    (768#32, 2#32)
def k0_off20 (d0 : Dev nD) (c512_i32_71 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let v177 : Index := Scalar.indexCast v105
  let c512_113 : Index := 512#32
  ![v177.toNat, 512]
def k0_off20_at (r : Fin 2) : BitVec 32 × BitVec 32 :=
  if r.val < 1 then
    (512#32, 1#32)
  else
    (768#32, 2#32)
def k0_off21 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c1_i32_133 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v208 : BitVec 32 := Scalar.subi c1_i32_133 v9
  let c64_i32_134 : BitVec 32 := 64#32
  let v209 : BitVec 32 := Scalar.muli v208 c64_i32_134
  let v210 : BitVec 32 := Scalar.addi v42 v209
  let c0_i32_141 : BitVec 32 := 0#32
  ![v210.toNat, 0]
def k0_dev10 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v211 : BitVec 32 := Scalar.xori v2 c4_i32_135
  let c1_i32_138 : BitVec 32 := 1#32
  let v212 : BitVec 32 := Scalar.muli v211 c1_i32_138
  let v213 : BitVec 32 := Scalar.addi c0_i32_139 v212
  v213.toNat
def k0_off22 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_159 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v240 : BitVec 32 := Scalar.subi c1_i32_159 v5
  let c64_i32_160 : BitVec 32 := 64#32
  let v241 : BitVec 32 := Scalar.muli v240 c64_i32_160
  let v242 : BitVec 32 := Scalar.addi v63 v241
  let c0_i32_166 : BitVec 32 := 0#32
  ![v242.toNat, 0]
def k0_dev11 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_161 : BitVec 32 := 1#32
  let v243 : BitVec 32 := Scalar.xori v2 c1_i32_161
  let c1_i32_163 : BitVec 32 := 1#32
  let v244 : BitVec 32 := Scalar.muli v243 c1_i32_163
  let v245 : BitVec 32 := Scalar.addi c0_i32_164 v244
  v245.toNat
def k0_off23 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_185 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v272 : BitVec 32 := Scalar.subi c1_i32_185 v7
  let c128_i32_186 : BitVec 32 := 128#32
  let v273 : BitVec 32 := Scalar.muli v272 c128_i32_186
  let v274 : BitVec 32 := Scalar.addi v21 v273
  let c0_i32_193 : BitVec 32 := 0#32
  ![v274.toNat, 0]
def k0_dev12 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_187 : BitVec 32 := 3#32
  let v275 : BitVec 32 := Scalar.xori v2 c3_i32_187
  let c1_i32_189 : BitVec 32 := 1#32
  let v276 : BitVec 32 := Scalar.muli v275 c1_i32_189
  let v277 : BitVec 32 := Scalar.addi c0_i32_190 v276
  v277.toNat
def k0_off24 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c1_i32_211 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v304 : BitVec 32 := Scalar.subi c1_i32_211 v9
  let c64_i32_212 : BitVec 32 := 64#32
  let v305 : BitVec 32 := Scalar.muli v304 c64_i32_212
  let v306 : BitVec 32 := Scalar.addi v105 v305
  let c512_i32_218 : BitVec 32 := 512#32
  ![v306.toNat, 512]
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_213 : BitVec 32 := 4#32
  let v307 : BitVec 32 := Scalar.xori v2 c4_i32_213
  let c1_i32_215 : BitVec 32 := 1#32
  let v308 : BitVec 32 := Scalar.muli v307 c1_i32_215
  let v309 : BitVec 32 := Scalar.addi c0_i32_216 v308
  v309.toNat
def k0_off25 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_236 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v336 : BitVec 32 := Scalar.subi c1_i32_236 v5
  let c64_i32_237 : BitVec 32 := 64#32
  let v337 : BitVec 32 := Scalar.muli v336 c64_i32_237
  let v338 : BitVec 32 := Scalar.addi v126 v337
  let c512_i32_243 : BitVec 32 := 512#32
  ![v338.toNat, 512]
def k0_dev14 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v339 : BitVec 32 := Scalar.xori v2 c1_i32_238
  let c1_i32_240 : BitVec 32 := 1#32
  let v340 : BitVec 32 := Scalar.muli v339 c1_i32_240
  let v341 : BitVec 32 := Scalar.addi c0_i32_241 v340
  v341.toNat
def k0_off26 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_261 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v368 : BitVec 32 := Scalar.subi c1_i32_261 v7
  let c128_i32_262 : BitVec 32 := 128#32
  let v369 : BitVec 32 := Scalar.muli v368 c128_i32_262
  let v370 : BitVec 32 := Scalar.addi v84 v369
  let c512_i32_268 : BitVec 32 := 512#32
  ![v370.toNat, 512]
def k0_dev15 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_263 : BitVec 32 := 3#32
  let v371 : BitVec 32 := Scalar.xori v2 c3_i32_263
  let c1_i32_265 : BitVec 32 := 1#32
  let v372 : BitVec 32 := Scalar.muli v371 c1_i32_265
  let v373 : BitVec 32 := Scalar.addi c0_i32_266 v372
  v373.toNat
def k0_off27 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let v390 : Index := Scalar.indexCast v207
  let c0_282 : Index := 0#32
  ![v390.toNat, 0]
def k0_off28 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let c1_i32_285 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v400 : BitVec 32 := Scalar.subi c1_i32_285 v5
  let c32_i32_286 : BitVec 32 := 32#32
  let v401 : BitVec 32 := Scalar.muli v400 c32_i32_286
  let v402 : BitVec 32 := Scalar.addi v207 v401
  let c0_i32_292 : BitVec 32 := 0#32
  ![v402.toNat, 0]
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_287 : BitVec 32 := 1#32
  let v403 : BitVec 32 := Scalar.xori v2 c1_i32_287
  let c1_i32_289 : BitVec 32 := 1#32
  let v404 : BitVec 32 := Scalar.muli v403 c1_i32_289
  let v405 : BitVec 32 := Scalar.addi c0_i32_290 v404
  v405.toNat
def k0_off29 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let v422 : Index := Scalar.indexCast v239
  let c0_306 : Index := 0#32
  ![v422.toNat, 0]
def k0_off30 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let c1_i32_310 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v432 : BitVec 32 := Scalar.subi c1_i32_310 v7
  let c32_i32_311 : BitVec 32 := 32#32
  let v433 : BitVec 32 := Scalar.muli v432 c32_i32_311
  let v434 : BitVec 32 := Scalar.addi v239 v433
  let c0_i32_317 : BitVec 32 := 0#32
  ![v434.toNat, 0]
def k0_dev17 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_312 : BitVec 32 := 3#32
  let v435 : BitVec 32 := Scalar.xori v2 c3_i32_312
  let c1_i32_314 : BitVec 32 := 1#32
  let v436 : BitVec 32 := Scalar.muli v435 c1_i32_314
  let v437 : BitVec 32 := Scalar.addi c0_i32_315 v436
  v437.toNat
def k0_off31 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let v454 : Index := Scalar.indexCast v271
  let c0_331 : Index := 0#32
  ![v454.toNat, 0]
def k0_off32 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let c1_i32_335 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v464 : BitVec 32 := Scalar.subi c1_i32_335 v9
  let c64_i32_336 : BitVec 32 := 64#32
  let v465 : BitVec 32 := Scalar.muli v464 c64_i32_336
  let v466 : BitVec 32 := Scalar.addi v271 v465
  let c0_i32_342 : BitVec 32 := 0#32
  ![v466.toNat, 0]
def k0_dev18 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_337 : BitVec 32 := 4#32
  let v467 : BitVec 32 := Scalar.xori v2 c4_i32_337
  let c1_i32_339 : BitVec 32 := 1#32
  let v468 : BitVec 32 := Scalar.muli v467 c1_i32_339
  let v469 : BitVec 32 := Scalar.addi c0_i32_340 v468
  v469.toNat
def k0_off33 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let v486 : Index := Scalar.indexCast v303
  let c512_356 : Index := 512#32
  ![v486.toNat, 512]
def k0_off34 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let c1_i32_360 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v496 : BitVec 32 := Scalar.subi c1_i32_360 v5
  let c32_i32_361 : BitVec 32 := 32#32
  let v497 : BitVec 32 := Scalar.muli v496 c32_i32_361
  let v498 : BitVec 32 := Scalar.addi v303 v497
  let c512_i32_367 : BitVec 32 := 512#32
  ![v498.toNat, 512]
def k0_dev19 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v499 : BitVec 32 := Scalar.xori v2 c1_i32_362
  let c1_i32_364 : BitVec 32 := 1#32
  let v500 : BitVec 32 := Scalar.muli v499 c1_i32_364
  let v501 : BitVec 32 := Scalar.addi c0_i32_365 v500
  v501.toNat
def k0_off35 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let v518 : Index := Scalar.indexCast v335
  let c512_381 : Index := 512#32
  ![v518.toNat, 512]
def k0_off36 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let c1_i32_385 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v528 : BitVec 32 := Scalar.subi c1_i32_385 v7
  let c32_i32_386 : BitVec 32 := 32#32
  let v529 : BitVec 32 := Scalar.muli v528 c32_i32_386
  let v530 : BitVec 32 := Scalar.addi v335 v529
  let c512_i32_392 : BitVec 32 := 512#32
  ![v530.toNat, 512]
def k0_dev20 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_387 : BitVec 32 := 3#32
  let v531 : BitVec 32 := Scalar.xori v2 c3_i32_387
  let c1_i32_389 : BitVec 32 := 1#32
  let v532 : BitVec 32 := Scalar.muli v531 c1_i32_389
  let v533 : BitVec 32 := Scalar.addi c0_i32_390 v532
  v533.toNat
def k0_off37 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let v550 : Index := Scalar.indexCast v367
  let c512_406 : Index := 512#32
  ![v550.toNat, 512]
def k0_off38 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let c1_i32_410 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v560 : BitVec 32 := Scalar.subi c1_i32_410 v9
  let c64_i32_411 : BitVec 32 := 64#32
  let v561 : BitVec 32 := Scalar.muli v560 c64_i32_411
  let v562 : BitVec 32 := Scalar.addi v367 v561
  let c512_i32_417 : BitVec 32 := 512#32
  ![v562.toNat, 512]
def k0_dev21 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_412 : BitVec 32 := 4#32
  let v563 : BitVec 32 := Scalar.xori v2 c4_i32_412
  let c1_i32_414 : BitVec 32 := 1#32
  let v564 : BitVec 32 := Scalar.muli v563 c1_i32_414
  let v565 : BitVec 32 := Scalar.addi c0_i32_415 v564
  v565.toNat
def k0_off39 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32 : BitVec 32 := 32#32
  let v398 : BitVec 32 := Scalar.muli v5 c32_i32
  let v399 : BitVec 32 := Scalar.addi v207 v398
  let v582 : Index := Scalar.indexCast v399
  let c0_431 : Index := 0#32
  ![v582.toNat, 0]
def k0_off40 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32 : BitVec 32 := 32#32
  let v398 : BitVec 32 := Scalar.muli v5 c32_i32
  let v399 : BitVec 32 := Scalar.addi v207 v398
  let c0_i32_438 : BitVec 32 := 0#32
  ![v399.toNat, 0]
def k0_dev22 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_434 : BitVec 32 := 1#32
  let v588 : BitVec 32 := Scalar.xori v2 c1_i32_434
  let c1_i32_436 : BitVec 32 := 1#32
  let v589 : BitVec 32 := Scalar.muli v588 c1_i32_436
  let v590 : BitVec 32 := Scalar.addi c0_i32_437 v589
  v590.toNat
def k0_off41 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let c1_i32_2 : BitVec 32 := 1#32
  let v6 : BitVec 32 := Scalar.shrsi v2 c1_i32_2
  let c1_i32_3 : BitVec 32 := 1#32
  let v7 : BitVec 32 := Scalar.andi v6 c1_i32_3
  let c32_i32_309 : BitVec 32 := 32#32
  let v430 : BitVec 32 := Scalar.muli v7 c32_i32_309
  let v431 : BitVec 32 := Scalar.addi v239 v430
  let v609 : Index := Scalar.indexCast v431
  let c0_454 : Index := 0#32
  ![v609.toNat, 0]
def k0_off42 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let c1_i32_2 : BitVec 32 := 1#32
  let v6 : BitVec 32 := Scalar.shrsi v2 c1_i32_2
  let c1_i32_3 : BitVec 32 := 1#32
  let v7 : BitVec 32 := Scalar.andi v6 c1_i32_3
  let c32_i32_309 : BitVec 32 := 32#32
  let v430 : BitVec 32 := Scalar.muli v7 c32_i32_309
  let v431 : BitVec 32 := Scalar.addi v239 v430
  let c0_i32_461 : BitVec 32 := 0#32
  ![v431.toNat, 0]
def k0_dev23 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_457 : BitVec 32 := 3#32
  let v615 : BitVec 32 := Scalar.xori v2 c3_i32_457
  let c1_i32_459 : BitVec 32 := 1#32
  let v616 : BitVec 32 := Scalar.muli v615 c1_i32_459
  let v617 : BitVec 32 := Scalar.addi c0_i32_460 v616
  v617.toNat
def k0_off43 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let c2_i32 : BitVec 32 := 2#32
  let v8 : BitVec 32 := Scalar.shrsi v2 c2_i32
  let c1_i32_4 : BitVec 32 := 1#32
  let v9 : BitVec 32 := Scalar.andi v8 c1_i32_4
  let c64_i32_334 : BitVec 32 := 64#32
  let v462 : BitVec 32 := Scalar.muli v9 c64_i32_334
  let v463 : BitVec 32 := Scalar.addi v271 v462
  let v636 : Index := Scalar.indexCast v463
  let c0_477 : Index := 0#32
  ![v636.toNat, 0]
def k0_off44 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let c2_i32 : BitVec 32 := 2#32
  let v8 : BitVec 32 := Scalar.shrsi v2 c2_i32
  let c1_i32_4 : BitVec 32 := 1#32
  let v9 : BitVec 32 := Scalar.andi v8 c1_i32_4
  let c64_i32_334 : BitVec 32 := 64#32
  let v462 : BitVec 32 := Scalar.muli v9 c64_i32_334
  let v463 : BitVec 32 := Scalar.addi v271 v462
  let c0_i32_484 : BitVec 32 := 0#32
  ![v463.toNat, 0]
def k0_dev24 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_480 : BitVec 32 := 4#32
  let v642 : BitVec 32 := Scalar.xori v2 c4_i32_480
  let c1_i32_482 : BitVec 32 := 1#32
  let v643 : BitVec 32 := Scalar.muli v642 c1_i32_482
  let v644 : BitVec 32 := Scalar.addi c0_i32_483 v643
  v644.toNat
def k0_off45 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_359 : BitVec 32 := 32#32
  let v494 : BitVec 32 := Scalar.muli v5 c32_i32_359
  let v495 : BitVec 32 := Scalar.addi v303 v494
  let v663 : Index := Scalar.indexCast v495
  let c512_500 : Index := 512#32
  ![v663.toNat, 512]
def k0_off46 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_359 : BitVec 32 := 32#32
  let v494 : BitVec 32 := Scalar.muli v5 c32_i32_359
  let v495 : BitVec 32 := Scalar.addi v303 v494
  let c512_i32_507 : BitVec 32 := 512#32
  ![v495.toNat, 512]
def k0_dev25 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v669 : BitVec 32 := Scalar.xori v2 c1_i32_503
  let c1_i32_505 : BitVec 32 := 1#32
  let v670 : BitVec 32 := Scalar.muli v669 c1_i32_505
  let v671 : BitVec 32 := Scalar.addi c0_i32_506 v670
  v671.toNat
def k0_off47 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let c1_i32_2 : BitVec 32 := 1#32
  let v6 : BitVec 32 := Scalar.shrsi v2 c1_i32_2
  let c1_i32_3 : BitVec 32 := 1#32
  let v7 : BitVec 32 := Scalar.andi v6 c1_i32_3
  let c32_i32_384 : BitVec 32 := 32#32
  let v526 : BitVec 32 := Scalar.muli v7 c32_i32_384
  let v527 : BitVec 32 := Scalar.addi v335 v526
  let v690 : Index := Scalar.indexCast v527
  let c512_523 : Index := 512#32
  ![v690.toNat, 512]
def k0_off48 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let c1_i32_2 : BitVec 32 := 1#32
  let v6 : BitVec 32 := Scalar.shrsi v2 c1_i32_2
  let c1_i32_3 : BitVec 32 := 1#32
  let v7 : BitVec 32 := Scalar.andi v6 c1_i32_3
  let c32_i32_384 : BitVec 32 := 32#32
  let v526 : BitVec 32 := Scalar.muli v7 c32_i32_384
  let v527 : BitVec 32 := Scalar.addi v335 v526
  let c512_i32_530 : BitVec 32 := 512#32
  ![v527.toNat, 512]
def k0_dev26 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_526 : BitVec 32 := 3#32
  let v696 : BitVec 32 := Scalar.xori v2 c3_i32_526
  let c1_i32_528 : BitVec 32 := 1#32
  let v697 : BitVec 32 := Scalar.muli v696 c1_i32_528
  let v698 : BitVec 32 := Scalar.addi c0_i32_529 v697
  v698.toNat
def k0_off49 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let c2_i32 : BitVec 32 := 2#32
  let v8 : BitVec 32 := Scalar.shrsi v2 c2_i32
  let c1_i32_4 : BitVec 32 := 1#32
  let v9 : BitVec 32 := Scalar.andi v8 c1_i32_4
  let c64_i32_409 : BitVec 32 := 64#32
  let v558 : BitVec 32 := Scalar.muli v9 c64_i32_409
  let v559 : BitVec 32 := Scalar.addi v367 v558
  let v717 : Index := Scalar.indexCast v559
  let c512_546 : Index := 512#32
  ![v717.toNat, 512]
def k0_off50 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let c2_i32 : BitVec 32 := 2#32
  let v8 : BitVec 32 := Scalar.shrsi v2 c2_i32
  let c1_i32_4 : BitVec 32 := 1#32
  let v9 : BitVec 32 := Scalar.andi v8 c1_i32_4
  let c64_i32_409 : BitVec 32 := 64#32
  let v558 : BitVec 32 := Scalar.muli v9 c64_i32_409
  let v559 : BitVec 32 := Scalar.addi v367 v558
  let c512_i32_553 : BitVec 32 := 512#32
  ![v559.toNat, 512]
def k0_dev27 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_549 : BitVec 32 := 4#32
  let v723 : BitVec 32 := Scalar.xori v2 c4_i32_549
  let c1_i32_551 : BitVec 32 := 1#32
  let v724 : BitVec 32 := Scalar.muli v723 c1_i32_551
  let v725 : BitVec 32 := Scalar.addi c0_i32_552 v724
  v725.toNat
def k0_off51 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32 : BitVec 32 := 32#32
  let v398 : BitVec 32 := Scalar.muli v5 c32_i32
  let v399 : BitVec 32 := Scalar.addi v207 v398
  let c32_i32_440 : BitVec 32 := 32#32
  let v597 : BitVec 32 := Scalar.muli v5 c32_i32_440
  let v598 : BitVec 32 := Scalar.subi v399 v597
  let c0_i32_571 : BitVec 32 := 0#32
  ![v598.toNat, 0]
def k0_dev28 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_567 : BitVec 32 := 4#32
  let v744 : BitVec 32 := Scalar.xori v2 c4_i32_567
  let c1_i32_569 : BitVec 32 := 1#32
  let v745 : BitVec 32 := Scalar.muli v744 c1_i32_569
  let v746 : BitVec 32 := Scalar.addi c0_i32_570 v745
  v746.toNat
def k0_off52 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let c1_i32_2 : BitVec 32 := 1#32
  let v6 : BitVec 32 := Scalar.shrsi v2 c1_i32_2
  let c1_i32_3 : BitVec 32 := 1#32
  let v7 : BitVec 32 := Scalar.andi v6 c1_i32_3
  let c32_i32_309 : BitVec 32 := 32#32
  let v430 : BitVec 32 := Scalar.muli v7 c32_i32_309
  let v431 : BitVec 32 := Scalar.addi v239 v430
  let c32_i32_463 : BitVec 32 := 32#32
  let v624 : BitVec 32 := Scalar.muli v7 c32_i32_463
  let v625 : BitVec 32 := Scalar.subi v431 v624
  let c0_i32_589 : BitVec 32 := 0#32
  ![v625.toNat, 0]
def k0_dev29 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_585 : BitVec 32 := 1#32
  let v765 : BitVec 32 := Scalar.xori v2 c1_i32_585
  let c1_i32_587 : BitVec 32 := 1#32
  let v766 : BitVec 32 := Scalar.muli v765 c1_i32_587
  let v767 : BitVec 32 := Scalar.addi c0_i32_588 v766
  v767.toNat
def k0_off53 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let c2_i32 : BitVec 32 := 2#32
  let v8 : BitVec 32 := Scalar.shrsi v2 c2_i32
  let c1_i32_4 : BitVec 32 := 1#32
  let v9 : BitVec 32 := Scalar.andi v8 c1_i32_4
  let c64_i32_334 : BitVec 32 := 64#32
  let v462 : BitVec 32 := Scalar.muli v9 c64_i32_334
  let v463 : BitVec 32 := Scalar.addi v271 v462
  let c64_i32_486 : BitVec 32 := 64#32
  let v651 : BitVec 32 := Scalar.muli v9 c64_i32_486
  let v652 : BitVec 32 := Scalar.subi v463 v651
  let c0_i32_607 : BitVec 32 := 0#32
  ![v652.toNat, 0]
def k0_dev30 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_603 : BitVec 32 := 3#32
  let v786 : BitVec 32 := Scalar.xori v2 c3_i32_603
  let c1_i32_605 : BitVec 32 := 1#32
  let v787 : BitVec 32 := Scalar.muli v786 c1_i32_605
  let v788 : BitVec 32 := Scalar.addi c0_i32_606 v787
  v788.toNat
def k0_off54 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_359 : BitVec 32 := 32#32
  let v494 : BitVec 32 := Scalar.muli v5 c32_i32_359
  let v495 : BitVec 32 := Scalar.addi v303 v494
  let c32_i32_509 : BitVec 32 := 32#32
  let v678 : BitVec 32 := Scalar.muli v5 c32_i32_509
  let v679 : BitVec 32 := Scalar.subi v495 v678
  let c512_i32_625 : BitVec 32 := 512#32
  ![v679.toNat, 512]
def k0_dev31 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v807 : BitVec 32 := Scalar.xori v2 c4_i32_621
  let c1_i32_623 : BitVec 32 := 1#32
  let v808 : BitVec 32 := Scalar.muli v807 c1_i32_623
  let v809 : BitVec 32 := Scalar.addi c0_i32_624 v808
  v809.toNat
def k0_off55 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let c1_i32_2 : BitVec 32 := 1#32
  let v6 : BitVec 32 := Scalar.shrsi v2 c1_i32_2
  let c1_i32_3 : BitVec 32 := 1#32
  let v7 : BitVec 32 := Scalar.andi v6 c1_i32_3
  let c32_i32_384 : BitVec 32 := 32#32
  let v526 : BitVec 32 := Scalar.muli v7 c32_i32_384
  let v527 : BitVec 32 := Scalar.addi v335 v526
  let c32_i32_532 : BitVec 32 := 32#32
  let v705 : BitVec 32 := Scalar.muli v7 c32_i32_532
  let v706 : BitVec 32 := Scalar.subi v527 v705
  let c512_i32_643 : BitVec 32 := 512#32
  ![v706.toNat, 512]
def k0_dev32 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_639 : BitVec 32 := 1#32
  let v828 : BitVec 32 := Scalar.xori v2 c1_i32_639
  let c1_i32_641 : BitVec 32 := 1#32
  let v829 : BitVec 32 := Scalar.muli v828 c1_i32_641
  let v830 : BitVec 32 := Scalar.addi c0_i32_642 v829
  v830.toNat
def k0_off56 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let c2_i32 : BitVec 32 := 2#32
  let v8 : BitVec 32 := Scalar.shrsi v2 c2_i32
  let c1_i32_4 : BitVec 32 := 1#32
  let v9 : BitVec 32 := Scalar.andi v8 c1_i32_4
  let c64_i32_409 : BitVec 32 := 64#32
  let v558 : BitVec 32 := Scalar.muli v9 c64_i32_409
  let v559 : BitVec 32 := Scalar.addi v367 v558
  let c64_i32_555 : BitVec 32 := 64#32
  let v732 : BitVec 32 := Scalar.muli v9 c64_i32_555
  let v733 : BitVec 32 := Scalar.subi v559 v732
  let c512_i32_661 : BitVec 32 := 512#32
  ![v733.toNat, 512]
def k0_dev33 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_657 : BitVec 32 := 3#32
  let v849 : BitVec 32 := Scalar.xori v2 c3_i32_657
  let c1_i32_659 : BitVec 32 := 1#32
  let v850 : BitVec 32 := Scalar.muli v849 c1_i32_659
  let v851 : BitVec 32 := Scalar.addi c0_i32_660 v850
  v851.toNat
def k0_off57 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32 : BitVec 32 := 128#32
  let v41 : BitVec 32 := Scalar.muli v7 c128_i32
  let v42 : BitVec 32 := Scalar.addi c512_i32 v41
  let c2_i32 : BitVec 32 := 2#32
  let v8 : BitVec 32 := Scalar.shrsi v2 c2_i32
  let c1_i32_4 : BitVec 32 := 1#32
  let v9 : BitVec 32 := Scalar.andi v8 c1_i32_4
  let c64_i32 : BitVec 32 := 64#32
  let v206 : BitVec 32 := Scalar.muli v9 c64_i32
  let v207 : BitVec 32 := Scalar.addi v42 v206
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32 : BitVec 32 := 32#32
  let v398 : BitVec 32 := Scalar.muli v5 c32_i32
  let v399 : BitVec 32 := Scalar.addi v207 v398
  let c32_i32_440 : BitVec 32 := 32#32
  let v597 : BitVec 32 := Scalar.muli v5 c32_i32_440
  let v598 : BitVec 32 := Scalar.subi v399 v597
  let c64_i32_573 : BitVec 32 := 64#32
  let v753 : BitVec 32 := Scalar.muli v9 c64_i32_573
  let v754 : BitVec 32 := Scalar.subi v598 v753
  let c0_i32_680 : BitVec 32 := 0#32
  ![v754.toNat, 0]
def k0_dev34 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_675 : BitVec 32 := 3#32
  let v870 : BitVec 32 := Scalar.xori v2 c3_i32_675
  let c1_i32_678 : BitVec 32 := 1#32
  let v871 : BitVec 32 := Scalar.muli v870 c1_i32_678
  let v872 : BitVec 32 := Scalar.addi c0_i32_679 v871
  v872.toNat
def k0_off58 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_42 : BitVec 32 := 128#32
  let v62 : BitVec 32 := Scalar.muli v9 c128_i32_42
  let v63 : BitVec 32 := Scalar.addi c768_i32 v62
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_158 : BitVec 32 := 64#32
  let v238 : BitVec 32 := Scalar.muli v5 c64_i32_158
  let v239 : BitVec 32 := Scalar.addi v63 v238
  let c1_i32_2 : BitVec 32 := 1#32
  let v6 : BitVec 32 := Scalar.shrsi v2 c1_i32_2
  let c1_i32_3 : BitVec 32 := 1#32
  let v7 : BitVec 32 := Scalar.andi v6 c1_i32_3
  let c32_i32_309 : BitVec 32 := 32#32
  let v430 : BitVec 32 := Scalar.muli v7 c32_i32_309
  let v431 : BitVec 32 := Scalar.addi v239 v430
  let c32_i32_463 : BitVec 32 := 32#32
  let v624 : BitVec 32 := Scalar.muli v7 c32_i32_463
  let v625 : BitVec 32 := Scalar.subi v431 v624
  let c64_i32_591 : BitVec 32 := 64#32
  let v774 : BitVec 32 := Scalar.muli v5 c64_i32_591
  let v775 : BitVec 32 := Scalar.subi v625 v774
  let c0_i32_697 : BitVec 32 := 0#32
  ![v775.toNat, 0]
def k0_dev35 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_693 : BitVec 32 := 4#32
  let v889 : BitVec 32 := Scalar.xori v2 c4_i32_693
  let c1_i32_695 : BitVec 32 := 1#32
  let v890 : BitVec 32 := Scalar.muli v889 c1_i32_695
  let v891 : BitVec 32 := Scalar.addi c0_i32_696 v890
  v891.toNat
def k0_off59 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32 : BitVec 32 := 256#32
  let v20 : BitVec 32 := Scalar.muli v5 c256_i32
  let v21 : BitVec 32 := Scalar.addi c0_i32_15 v20
  let c1_i32_2 : BitVec 32 := 1#32
  let v6 : BitVec 32 := Scalar.shrsi v2 c1_i32_2
  let c1_i32_3 : BitVec 32 := 1#32
  let v7 : BitVec 32 := Scalar.andi v6 c1_i32_3
  let c128_i32_184 : BitVec 32 := 128#32
  let v270 : BitVec 32 := Scalar.muli v7 c128_i32_184
  let v271 : BitVec 32 := Scalar.addi v21 v270
  let c2_i32 : BitVec 32 := 2#32
  let v8 : BitVec 32 := Scalar.shrsi v2 c2_i32
  let c1_i32_4 : BitVec 32 := 1#32
  let v9 : BitVec 32 := Scalar.andi v8 c1_i32_4
  let c64_i32_334 : BitVec 32 := 64#32
  let v462 : BitVec 32 := Scalar.muli v9 c64_i32_334
  let v463 : BitVec 32 := Scalar.addi v271 v462
  let c64_i32_486 : BitVec 32 := 64#32
  let v651 : BitVec 32 := Scalar.muli v9 c64_i32_486
  let v652 : BitVec 32 := Scalar.subi v463 v651
  let c128_i32_609 : BitVec 32 := 128#32
  let v795 : BitVec 32 := Scalar.muli v7 c128_i32_609
  let v796 : BitVec 32 := Scalar.subi v652 v795
  let c0_i32_714 : BitVec 32 := 0#32
  ![v796.toNat, 0]
def k0_dev36 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_710 : BitVec 32 := 1#32
  let v908 : BitVec 32 := Scalar.xori v2 c1_i32_710
  let c1_i32_712 : BitVec 32 := 1#32
  let v909 : BitVec 32 := Scalar.muli v908 c1_i32_712
  let v910 : BitVec 32 := Scalar.addi c0_i32_713 v909
  v910.toNat
def k0_off60 (d0 : Dev nD) : Fin 2 → Nat :=
  let c512_i32_71 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_70 : BitVec 32 := 128#32
  let v104 : BitVec 32 := Scalar.muli v7 c128_i32_70
  let v105 : BitVec 32 := Scalar.addi c512_i32_71 v104
  let c2_i32 : BitVec 32 := 2#32
  let v8 : BitVec 32 := Scalar.shrsi v2 c2_i32
  let c1_i32_4 : BitVec 32 := 1#32
  let v9 : BitVec 32 := Scalar.andi v8 c1_i32_4
  let c64_i32_210 : BitVec 32 := 64#32
  let v302 : BitVec 32 := Scalar.muli v9 c64_i32_210
  let v303 : BitVec 32 := Scalar.addi v105 v302
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_359 : BitVec 32 := 32#32
  let v494 : BitVec 32 := Scalar.muli v5 c32_i32_359
  let v495 : BitVec 32 := Scalar.addi v303 v494
  let c32_i32_509 : BitVec 32 := 32#32
  let v678 : BitVec 32 := Scalar.muli v5 c32_i32_509
  let v679 : BitVec 32 := Scalar.subi v495 v678
  let c64_i32_627 : BitVec 32 := 64#32
  let v816 : BitVec 32 := Scalar.muli v9 c64_i32_627
  let v817 : BitVec 32 := Scalar.subi v679 v816
  let c512_i32_731 : BitVec 32 := 512#32
  ![v817.toNat, 512]
def k0_dev37 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_727 : BitVec 32 := 3#32
  let v927 : BitVec 32 := Scalar.xori v2 c3_i32_727
  let c1_i32_729 : BitVec 32 := 1#32
  let v928 : BitVec 32 := Scalar.muli v927 c1_i32_729
  let v929 : BitVec 32 := Scalar.addi c0_i32_730 v928
  v929.toNat
def k0_off61 (d0 : Dev nD) : Fin 2 → Nat :=
  let c768_i32_86 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_85 : BitVec 32 := 128#32
  let v125 : BitVec 32 := Scalar.muli v9 c128_i32_85
  let v126 : BitVec 32 := Scalar.addi c768_i32_86 v125
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_235 : BitVec 32 := 64#32
  let v334 : BitVec 32 := Scalar.muli v5 c64_i32_235
  let v335 : BitVec 32 := Scalar.addi v126 v334
  let c1_i32_2 : BitVec 32 := 1#32
  let v6 : BitVec 32 := Scalar.shrsi v2 c1_i32_2
  let c1_i32_3 : BitVec 32 := 1#32
  let v7 : BitVec 32 := Scalar.andi v6 c1_i32_3
  let c32_i32_384 : BitVec 32 := 32#32
  let v526 : BitVec 32 := Scalar.muli v7 c32_i32_384
  let v527 : BitVec 32 := Scalar.addi v335 v526
  let c32_i32_532 : BitVec 32 := 32#32
  let v705 : BitVec 32 := Scalar.muli v7 c32_i32_532
  let v706 : BitVec 32 := Scalar.subi v527 v705
  let c64_i32_645 : BitVec 32 := 64#32
  let v837 : BitVec 32 := Scalar.muli v5 c64_i32_645
  let v838 : BitVec 32 := Scalar.subi v706 v837
  let c512_i32_748 : BitVec 32 := 512#32
  ![v838.toNat, 512]
def k0_dev38 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_744 : BitVec 32 := 4#32
  let v946 : BitVec 32 := Scalar.xori v2 c4_i32_744
  let c1_i32_746 : BitVec 32 := 1#32
  let v947 : BitVec 32 := Scalar.muli v946 c1_i32_746
  let v948 : BitVec 32 := Scalar.addi c0_i32_747 v947
  v948.toNat
def k0_off62 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_56 : BitVec 32 := 256#32
  let v83 : BitVec 32 := Scalar.muli v5 c256_i32_56
  let v84 : BitVec 32 := Scalar.addi c0_i32_57 v83
  let c1_i32_2 : BitVec 32 := 1#32
  let v6 : BitVec 32 := Scalar.shrsi v2 c1_i32_2
  let c1_i32_3 : BitVec 32 := 1#32
  let v7 : BitVec 32 := Scalar.andi v6 c1_i32_3
  let c128_i32_260 : BitVec 32 := 128#32
  let v366 : BitVec 32 := Scalar.muli v7 c128_i32_260
  let v367 : BitVec 32 := Scalar.addi v84 v366
  let c2_i32 : BitVec 32 := 2#32
  let v8 : BitVec 32 := Scalar.shrsi v2 c2_i32
  let c1_i32_4 : BitVec 32 := 1#32
  let v9 : BitVec 32 := Scalar.andi v8 c1_i32_4
  let c64_i32_409 : BitVec 32 := 64#32
  let v558 : BitVec 32 := Scalar.muli v9 c64_i32_409
  let v559 : BitVec 32 := Scalar.addi v367 v558
  let c64_i32_555 : BitVec 32 := 64#32
  let v732 : BitVec 32 := Scalar.muli v9 c64_i32_555
  let v733 : BitVec 32 := Scalar.subi v559 v732
  let c128_i32_663 : BitVec 32 := 128#32
  let v858 : BitVec 32 := Scalar.muli v7 c128_i32_663
  let v859 : BitVec 32 := Scalar.subi v733 v858
  let c512_i32_765 : BitVec 32 := 512#32
  ![v859.toNat, 512]
def k0_dev39 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_761 : BitVec 32 := 1#32
  let v965 : BitVec 32 := Scalar.xori v2 c1_i32_761
  let c1_i32_763 : BitVec 32 := 1#32
  let v966 : BitVec 32 := Scalar.muli v965 c1_i32_763
  let v967 : BitVec 32 := Scalar.addi c0_i32_764 v966
  v967.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Geometry.lean ====
/-
# The geometry of the exchange

Eight devices form a cube. The array of 1024 × 1024 elements is cut into six parts, and each part is summed on its own:
at its level `s` a device trades with its neighbour along one dimension of the cube, keeps one half of what it kept at
the level before and hands the other half over; after three levels each device holds an eighth of the part, summed over
all eight devices, and the eighths travel back along the same three dimensions. This file holds the tables of the six
parts, the sets of indices a device keeps at each level and the contents the levels leave there.
-/
module

public import Idealize.ShloMosaic.Lib.Pipeline.Launch
public import Idealize.ShloMosaic.Lib.ValueIdxCore

@[expose] public section

noncomputable section

namespace Cert.Cube

open Idealize.ShloMosaic
open Idealize.ShloMosaic.ValueIdx

/-! ## The cube and the tables of the parts -/

/-- The bits of a device's number that a step along a dimension flips. -/
def mask (d : Fin 3) : ℕ := (![1, 3, 4] : Fin 3 → ℕ) d

/-- The neighbour of a device along a dimension. -/
def peer (d : Fin 3) (c : Fin 8) : Fin 8 := Fin.ofNat 8 (c.val ^^^ mask d)

/-- A device's coordinate along a dimension. -/
def bit (d : Fin 3) (c : Fin 8) : ℕ :=
  (![(c.val ^^^ c.val >>> 1) &&& 1, (c.val >>> 1) &&& 1, (c.val >>> 2) &&& 1] : Fin 3 → ℕ) d

/-- The dimension part `p` trades along at its level `s`. -/
def ord (p : Fin 6) (s : Fin 3) : Fin 3 :=
  (![![0, 1, 2], ![0, 1, 2], ![1, 2, 0], ![1, 2, 0], ![2, 0, 1], ![2, 0, 1]] : Fin 6 → Fin 3 → Fin 3) p s

/-- The number of rows a device keeps of part `p` at level `s`. -/
def rows (p : Fin 6) (s : Fin 3) : ℕ :=
  (![![256, 128, 64], ![256, 128, 64], ![128, 64, 32], ![128, 64, 32], ![128, 64, 32], ![128, 64, 32]] : Fin 6 → Fin 3 → ℕ) p s

/-- The first row of part `p`. -/
def base (p : Fin 6) : ℕ := (![0, 0, 512, 512, 768, 768] : Fin 6 → ℕ) p

/-- The first column of part `p`; a part is 512 columns wide. -/
def col (p : Fin 6) : ℕ := (![0, 512, 0, 512, 0, 512] : Fin 6 → ℕ) p

/-- The first row, in the landing buffer, of the slot for part `p`, level `s`. -/
def slot (p : Fin 6) (s : Fin 3) : ℕ :=
  (![![0, 256, 384], ![448, 704, 832], ![896, 1024, 1088], ![1120, 1248, 1312], ![1344, 1472, 1536], ![1568, 1696, 1760]] :
    Fin 6 → Fin 3 → ℕ) p s

/-- The first row of what device `c` keeps of part `p` at level `s`. -/
def seg (c : Fin 8) (p : Fin 6) (s : Fin 3) : ℕ :=
  (![base p + bit (ord p 0) c * rows p 0,
    base p + bit (ord p 0) c * rows p 0 + bit (ord p 1) c * rows p 1,
    base p + bit (ord p 0) c * rows p 0 + bit (ord p 1) c * rows p 1 + bit (ord p 2) c * rows p 2] : Fin 3 → ℕ) s

/-- Going along a dimension twice leads back. -/
theorem peer_peer (d : Fin 3) (c : Fin 8) : peer d (peer d c) = c := by revert d c; decide
/-- A neighbour is another device. -/
theorem peer_ne (d : Fin 3) (c : Fin 8) : peer d c ≠ c := by revert d c; decide

/-- The step along a dimension, as a permutation of the devices. -/
def around (d : Fin 3) : Fin 8 ≃ Fin 8 := ⟨peer d, peer d, peer_peer d, peer_peer d⟩

/-- The level at which part `p` trades along a dimension. -/
def lev (p : Fin 6) (d : Fin 3) : Fin 3 :=
  (![![0, 1, 2], ![0, 1, 2], ![2, 0, 1], ![2, 0, 1], ![1, 2, 0], ![1, 2, 0]] : Fin 6 → Fin 3 → Fin 3) p d

/-- The level of the dimension that part `p` trades along at level `s` is `s`, -/
theorem lev_ord (p : Fin 6) (s : Fin 3) : lev p (ord p s) = s := by revert p s; decide
/-- and the dimension of the level of `d` is `d`. -/
theorem ord_lev (p : Fin 6) (d : Fin 3) : ord p (lev p d) = d := by revert p d; decide

/-! ## Boxes of rows -/

/-- The buffers' shape with `R` rows. -/
abbrev Sh (R : ℕ) : Shape := ⟨2, ![R, 1024]⟩

variable {R : ℕ}

/-- The indices in rows `r` to `r + n` and columns `k` to `k + 512`. -/
def box (R r n k : ℕ) : Finset (Sh R).Idx :=
  Finset.univ.filter fun i => (r ≤ (i 0).val ∧ (i 0).val < r + n) ∧ k ≤ (i 1).val ∧ (i 1).val < k + 512

/-- Membership in a box, by rows and columns. -/
theorem mem_box {r n k : ℕ} {i : (Sh R).Idx} :
    i ∈ box R r n k ↔ (r ≤ (i 0).val ∧ (i 0).val < r + n) ∧ k ≤ (i 1).val ∧ (i 1).val < k + 512 := by
  simp only [box, Finset.mem_filter, Finset.mem_univ, true_and]

/-- Two boxes one above the other are one. -/
theorem box_union (r n m k : ℕ) : box R r n k ∪ box R (r + n) m k = box R r (n + m) k := by
  ext i; simp only [Finset.mem_union, mem_box]; omega

/-- Boxes apart in their rows or in their columns are disjoint. -/
theorem box_disjoint {r n k r' n' k' : ℕ} (h : r + n ≤ r' ∨ r' + n' ≤ r ∨ k + 512 ≤ k' ∨ k' + 512 ≤ k) :
    Disjoint (box R r n k) (box R r' n' k') := by
  rw [Finset.disjoint_left]; intro i hi hj; rw [mem_box] at hi hj; omega

/-- A rectangle of unit stride and 512 columns is a box. -/
theorem unit_set (r n k : ℕ) (off : Fin 2 → ℕ) (hoff : off = ![r, k]) (inb) :
    (Rect.unit (s := Sh R) off (![n, 512]) inb).set = box R r n k := by
  subst hoff; ext i
  rw [Rect.mem_set_unit, mem_box]
  constructor
  · intro h; exact ⟨h 0, h 1⟩
  · intro h a; fin_cases a
    · exact h.1
    · exact h.2

/-! ## What a device keeps -/

/-- The rows and columns device `c` keeps of part `p` at level `s`. -/
abbrev reg (c : Fin 8) (p : Fin 6) (s : Fin 3) : Finset (Sh 1024).Idx := box 1024 (seg c p s) (rows p s) (col p)

/-- The slot of the landing buffer for part `p`, level `s`. -/
abbrev slotReg (p : Fin 6) (s : Fin 3) : Finset (Sh 1792).Idx := box 1792 (slot p s) (rows p s) (col p)

/-- All rows of part `p`. -/
def part (p : Fin 6) : Finset (Sh 1024).Idx := box 1024 (base p) (2 * rows p 0) (col p)

/-- What a device keeps lies inside the array. -/
theorem seg_bound (c : Fin 8) (p : Fin 6) (s : Fin 3) : seg c p s + rows p s ≤ 1024 ∧ col p + 512 ≤ 1024 := by
  revert c p s; decide +kernel

/-- A slot lies inside the landing buffer. -/
theorem slot_bound (p : Fin 6) (s : Fin 3) : slot p s + rows p s ≤ 1792 := by revert p s; decide

/-- No region is empty. -/
theorem rows_pos (p : Fin 6) (s : Fin 3) : 0 < rows p s := by revert p s; decide

/-- The two halves of a part at level 0. -/
theorem seg_first (c : Fin 8) (p : Fin 6) :
    (seg c p 0 = base p ∧ seg (peer (ord p 0) c) p 0 = base p + rows p 0)
      ∨ (seg (peer (ord p 0) c) p 0 = base p ∧ seg c p 0 = base p + rows p 0) := by
  revert c p; decide +kernel

/-- A level's rows are halved at the next. -/
theorem seg_next (c : Fin 8) (p : Fin 6) (s : Fin 2) :
    rows p s.castSucc = rows p s.succ + rows p s.succ ∧
    ((seg c p s.succ = seg c p s.castSucc ∧ seg (peer (ord p s.succ) c) p s.succ = seg c p s.castSucc + rows p s.succ)
      ∨ (seg (peer (ord p s.succ) c) p s.succ = seg c p s.castSucc ∧ seg c p s.succ = seg c p s.castSucc + rows p s.succ)) := by
  revert c p s; decide +kernel

/-- A neighbour along a later dimension keeps the same rows at this level. -/
theorem seg_later (c : Fin 8) (p : Fin 6) (s : Fin 2) : seg (peer (ord p s.succ) c) p s.castSucc = seg c p s.castSucc := by
  revert c p s; decide +kernel

/-- A neighbour along the last dimension keeps the same rows at level 0. -/
theorem seg_later₂ (c : Fin 8) (p : Fin 6) : seg (peer (ord p 2) c) p 0 = seg c p 0 := by revert c p; decide +kernel

/-- A part is what a device and its first neighbour keep at level 0, -/
theorem part_split (c : Fin 8) (p : Fin 6) : part p = reg c p 0 ∪ reg (peer (ord p 0) c) p 0 := by
  unfold part reg
  rcases seg_first c p with ⟨h, h'⟩ | ⟨h, h'⟩ <;> rw [h, h']
  · rw [box_union, two_mul]
  · rw [Finset.union_comm, box_union, two_mul]

/-- and the two share nothing. -/
theorem part_disjoint (c : Fin 8) (p : Fin 6) : Disjoint (reg c p 0) (reg (peer (ord p 0) c) p 0) := by
  unfold reg; refine box_disjoint ?_
  rcases seg_first c p with ⟨h, h'⟩ | ⟨h, h'⟩ <;> rw [h, h'] <;> omega

/-- What a device keeps at a level is what it and its next neighbour keep at the next, -/
theorem reg_split (c : Fin 8) (p : Fin 6) (s : Fin 2) :
    reg c p s.castSucc = reg c p s.succ ∪ reg (peer (ord p s.succ) c) p s.succ := by
  unfold reg
  obtain ⟨hr, h⟩ := seg_next c p s
  rcases h with ⟨h, h'⟩ | ⟨h, h'⟩ <;> rw [h, h', hr]
  · rw [box_union]
  · rw [Finset.union_comm, box_union]

/-- and the two share nothing. -/
theorem reg_disjoint (c : Fin 8) (p : Fin 6) (s : Fin 2) : Disjoint (reg c p s.succ) (reg (peer (ord p s.succ) c) p s.succ) := by
  unfold reg; refine box_disjoint ?_
  obtain ⟨hr, h⟩ := seg_next c p s
  rcases h with ⟨h, h'⟩ | ⟨h, h'⟩ <;> rw [h, h'] <;> omega

/-- So it keeps the same region. -/
theorem reg_later (c : Fin 8) (p : Fin 6) (s : Fin 2) : reg (peer (ord p s.succ) c) p s.castSucc = reg c p s.castSucc := by
  unfold reg; rw [seg_later]

/-- Different parts share no index, -/
theorem part_pairwise (p p' : Fin 6) (h : p ≠ p') : Disjoint (part p) (part p') := by
  unfold part; refine box_disjoint ?_; revert p p'; decide

/-- and together they are the array. -/
theorem part_cover : (Finset.univ : Finset (Fin 6)).biUnion part = Finset.univ := by
  ext i
  simp only [Finset.mem_biUnion, Finset.mem_univ, true_and, iff_true]
  have h0 : (i 0).val < 1024 := (i 0).isLt
  have h1 : (i 1).val < 1024 := (i 1).isLt
  have key : ∀ p : Fin 6, (base p ≤ (i 0).val ∧ (i 0).val < base p + 2 * rows p 0) → (col p ≤ (i 1).val ∧ (i 1).val < col p + 512) →
      ∃ q, i ∈ part q := fun p h h' => ⟨p, mem_box.mpr ⟨h, h'⟩⟩
  by_cases k : (i 1).val < 512
  · have hk : (0 : ℕ) ≤ (i 1).val ∧ (i 1).val < 0 + 512 := by omega
    by_cases a : (i 0).val < 512
    · exact key 0 (show 0 ≤ (i 0).val ∧ (i 0).val < 0 + 2 * 256 by omega) hk
    · by_cases b : (i 0).val < 768
      · exact key 2 (show 512 ≤ (i 0).val ∧ (i 0).val < 512 + 2 * 128 by omega) hk
      · exact key 4 (show 768 ≤ (i 0).val ∧ (i 0).val < 768 + 2 * 128 by omega) hk
  · have hk : (512 : ℕ) ≤ (i 1).val ∧ (i 1).val < 512 + 512 := by omega
    by_cases a : (i 0).val < 512
    · exact key 1 (show 0 ≤ (i 0).val ∧ (i 0).val < 0 + 2 * 256 by omega) hk
    · by_cases b : (i 0).val < 768
      · exact key 3 (show 512 ≤ (i 0).val ∧ (i 0).val < 512 + 2 * 128 by omega) hk
      · exact key 5 (show 768 ≤ (i 0).val ∧ (i 0).val < 768 + 2 * 128 by omega) hk

/-- Different slots of the landing buffer share no index. -/
theorem slot_pairwise (a b : Fin 6 × Fin 3) (h : a ≠ b) : Disjoint (slotReg a.1 a.2) (slotReg b.1 b.2) := by
  unfold slotReg; refine box_disjoint ?_
  have := (by decide +kernel : ∀ a b : Fin 6 × Fin 3, a ≠ b → slot a.1 a.2 + rows a.1 a.2 ≤ slot b.1 b.2 ∨ slot b.1 b.2 + rows b.1 b.2 ≤ slot a.1 a.2) a b h
  omega

/-- The eighths of the parts share no index: each belongs to one part and one device. -/
theorem eighth_unique (a b : Fin 6 × Fin 8) (i : (Sh 1024).Idx) (ha : i ∈ reg a.2 a.1 2) (hb : i ∈ reg b.2 b.1 2) : a = b := by
  by_contra h
  have := (by decide +kernel : ∀ a b : Fin 6 × Fin 8, a ≠ b → seg a.2 a.1 2 + rows a.1 2 ≤ seg b.2 b.1 2
    ∨ seg b.2 b.1 2 + rows b.1 2 ≤ seg a.2 a.1 2 ∨ col a.1 + 512 ≤ col b.1 ∨ col b.1 + 512 ≤ col a.1) a b h
  unfold reg at ha hb; rw [mem_box] at ha hb; omega

/-! ## The contents the levels leave -/

section Contents
variable {α : Type} (add : α → α → α) (x : Fin 8 → (Sh 1024).Idx → α)

/-- What device `c` holds of part `p` after `k` levels (at the indices it keeps then): its own value and its
    neighbour's of the level before, added. -/
def acc (p : Fin 6) : ℕ → Fin 8 → (Sh 1024).Idx → α
  | 0 => x
  | k + 1 => fun c i => add (acc p k c i) (acc p k (peer (ord p (Fin.ofNat 3 k)) c) i)

/-- What lands in device `c`'s slot for part `p`, level `s`: its neighbour's values of the rows `c` keeps. -/
def land (p : Fin 6) (s : Fin 3) (c : Fin 8) (j : (Sh 1792).Idx) : α :=
  acc add x p s.val (peer (ord p s) c)
    (ix2 ⟨(seg c p s + ((j 0).val - slot p s)) % 1024, Nat.mod_lt _ (by decide)⟩ ⟨(j 1).val % 1024, Nat.mod_lt _ (by decide)⟩)

/-- The landed contents at an index, by the index they come from. -/
theorem land_apply (p : Fin 6) (s : Fin 3) (c : Fin 8) (j : (Sh 1792).Idx) (k : (Sh 1024).Idx)
    (h0 : (k 0).val = seg c p s + ((j 0).val - slot p s)) (h1 : (k 1).val = (j 1).val) :
    land add x p s c j = acc add x p s.val (peer (ord p s) c) k := by
  unfold land
  congr 1
  rw [eq_ix2 k]
  have b0 : (k 0).val < 1024 := (k 0).isLt
  have b1 : (k 1).val < 1024 := (k 1).isLt
  congr 1
  · refine Fin.ext ?_
    show (seg c p s + ((j 0).val - slot p s)) % 1024 = (k 0).val
    rw [← h0, Nat.mod_eq_of_lt b0]
  · refine Fin.ext ?_
    show (j 1).val % 1024 = (k 1).val
    rw [← h1, Nat.mod_eq_of_lt b1]

open Classical in
/-- The result, the same on every device: at an index of an eighth, what the device that keeps it holds after three
    levels. -/
def total (i : (Sh 1024).Idx) : α :=
  if h : ∃ a : Fin 6 × Fin 8, i ∈ reg a.2 a.1 2 then acc add x h.choose.1 3 h.choose.2 i else x 0 i

/-- At an index that device `c` keeps of part `p` to the end, the result is what `c` holds after three levels. -/
theorem total_eq (p : Fin 6) (c : Fin 8) (i : (Sh 1024).Idx) (hi : i ∈ reg c p 2) : total add x i = acc add x p 3 c i := by
  have h : ∃ a : Fin 6 × Fin 8, i ∈ reg a.2 a.1 2 := ⟨(p, c), hi⟩
  have e := eighth_unique _ (p, c) i h.choose_spec hi
  unfold total; rw [dif_pos h, e]

end Contents

end Cert.Cube
-- ==== Proof.KernelIdeal.Protocol.lean ====
/-
# The protocol of the exchange

Every transfer of the kernel is one of 36 exchanges, named by a stage and a part: at stages 0, 1, 2 a part's half goes to
the neighbour's landing buffer (levels 0, 1, 2), at stages 3, 4, 5 the summed rows come back (levels 2, 1, 0). Each
exchange has a send semaphore and a receive semaphore of its own on every device, each used for one transfer only. This
file states what each semaphore's one round hands over, what each device owes at the start, and in which order.
-/
module

public import proofs.«01_k».proof.Proof.Geometry
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShapeFacts
public import Idealize.ShloMosaic.Lib.Tactic

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state of the kernel's rounds, with duties named by the dimensions, -/
abbrev UB : Type := URounds (GSem nD τ sig) (Fin 3)
/-- beside that of the windows. -/
abbrev UU : Type := UR sig nD τ × UB

local notation "𝕄" => MT nD τ sig Unit (Elt F) ℕ UU ℕ

/-- Where the windows' ghost state lives -/
abbrev EP : Emb (UR sig nD τ) (MT nD τ sig Unit (Elt F) ℕ UU ℕ) := embL
/-- and where the kernel's does. -/
abbrev ER : Emb UB (MT nD τ sig Unit (Elt F) ℕ UU ℕ) := embR

/-- No loop of the body needs a bound. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers, semaphores, cells -/

/-- The staged argument, the staged result, the work buffer, the landing buffer. -/
abbrev xM : Memref sig .tc .vmem S1x1024x1024 .bf16 := Memref.whole cc0_stg0_0
/-- the staged result, -/
abbrev oM : Memref sig .tc .vmem S1024x1024 .bf16 := Memref.whole cc0_stg1_0
/-- the work buffer -/
abbrev wM : Memref sig .tc .vmem S1024x1024 .bf16 := Memref.whole cc0_scratch0
/-- and the landing buffer, whole. -/
abbrev bM : Memref sig .tc .vmem S1792x1024 .bf16 := Memref.whole cc0_scratch1

/-- The barrier semaphore. -/
abbrev barS : Sem sig := (SemArray.scalar (sig.barrier 0 rfl) : Sems sig S_).sem

/-- The send and the receive semaphore of exchange `(st, p)`, among the 72 of the kernel's own. -/
def sIdx (st p : Fin 6) : Fin 72 := ⟨6 * st.val + p.val, by omega⟩
/-- and of its receive semaphore. -/
def rIdx (st p : Fin 6) : Fin 72 := ⟨36 + (6 * st.val + p.val), by omega⟩

/-- The kernel's own semaphores: all but the two of the staging copies. -/
abbrev osem (j : Fin 72) : SemLoc sig := .dma (⟨2 + j.val, by omega⟩ : Fin 74)

/-- The barrier cell of device `c`, -/
abbrev barCell (c : Dev nD) : GSem nD τ sig := ((c : Thread nD τ), .reg barS)
/-- the cell of its send semaphore of a stage and part, -/
abbrev sendCell (c : Dev nD) (st p : Fin 6) : GSem nD τ sig := ((c : Thread nD τ), osem (sIdx st p))
/-- and that of its receive semaphore. -/
abbrev recvCell (c : Dev nD) (st p : Fin 6) : GSem nD τ sig := ((c : Thread nD τ), osem (rIdx st p))

/-- The level of a stage. -/
def lvl (st : Fin 6) : Fin 3 := (![0, 1, 2, 2, 1, 0] : Fin 6 → Fin 3) st

/-- The neighbour exchange `(st, p)` goes to and comes from. -/
def nb (st p : Fin 6) (c : Dev nD) : Dev nD := peer (ord p (lvl st)) c

/-- An exchange's partner has this device as its partner. -/
theorem nb_nb (st p : Fin 6) (c : Dev nD) : nb st p (nb st p c) = c := peer_peer _ _

/-- The credit of a transfer of `n` rows of 512. -/
def credit (n : ℕ) : ℕ := sig.dmaCredit .tc (Kind.table .tc .vmem) (wM : Memref sig .tc .vmem S1024x1024 .bf16).view.buf ⟨2, ![n, 512]⟩ .bf16

/-- The credit of exchange `(st, p)`. -/
def amt (st p : Fin 6) : ℕ := credit (rows p (lvl st))

/-- Every exchange moves something. -/
theorem amt_pos (st p : Fin 6) : 0 < amt st p := by
  refine sig.dmaCredit_pos _ _ _ _ _ ?_
  show 0 < (⟨2, ![rows p (lvl st), 512]⟩ : Shape).numel
  rw [Shape.numel_rank2]
  exact Nat.mul_pos (rows_pos p (lvl st)) (show 0 < 512 by decide)

/-! ## Contents -/

/-- The staged argument of device `c`: its block of `x`, -/
def xstg (c : Dev nD) : (cc0_stg0_0 : Ref sig .tc).ty.Contents (Elt F) :=
  (win0_0.blk (0 : Fin 1)).view.read (Elt F) ((s₀ m ρ).mem ((c : Thread nD τ).loc main_arg0))

/-- as an array of 1024 rows and 1024 columns. -/
def xin (c : Fin 8) (i : (Sh 1024).Idx) : Elt F .bf16 := xstg m ρ c (ix3 (0 : Fin 1) (i 0 : Fin 1024) (i 1 : Fin 1024))

/-- The addition of the kernel's number type. -/
def plus (a b : Elt F .bf16) : Elt F .bf16 := FloatOps.addf (F := F) (φ := .bf16) a b

/-- What device `c` holds of part `p` after `k` levels, -/
def accC (p : Fin 6) (k : ℕ) (c : Dev nD) : (Sh 1024).Idx → Elt F .bf16 := acc plus (xin m ρ) p k c
/-- what lands in its slots, -/
def landC (p : Fin 6) (s : Fin 3) (c : Dev nD) : (Sh 1792).Idx → Elt F .bf16 := land plus (xin m ρ) p s c
/-- and the result. -/
def outC : (Sh 1024).Idx → Elt F .bf16 := total plus (xin m ρ)

/-- Elements of the work buffer, the landing buffer and the staged result of device `c`. -/
def wPts (c : Dev nD) (S : Finset (Sh 1024).Idx) (f : (Sh 1024).Idx → Elt F .bf16) : sProp 𝕄 :=
  (wM : Memref sig .tc .vmem S1024x1024 .bf16).view.loc (c : Thread nD τ) ↦[S]{fullShare} f
/-- Elements of the landing buffer. -/
def bPts (c : Dev nD) (S : Finset (Sh 1792).Idx) (f : (Sh 1792).Idx → Elt F .bf16) : sProp 𝕄 :=
  (bM : Memref sig .tc .vmem S1792x1024 .bf16).view.loc (c : Thread nD τ) ↦[S]{fullShare} f
/-- Elements of the staged result. -/
def oPts (c : Dev nD) (S : Finset (Sh 1024).Idx) (f : (Sh 1024).Idx → Elt F .bf16) : sProp 𝕄 :=
  (oM : Memref sig .tc .vmem S1024x1024 .bf16).view.loc (c : Thread nD τ) ↦[S]{fullShare} f
/-- The whole staged argument. -/
def xPts (c : Dev nD) : sProp 𝕄 :=
  (xM : Memref sig .tc .vmem S1x1024x1024 .bf16).view.loc (c : Thread nD τ) ↦[Finset.univ]{fullShare} xstg m ρ c

omit [FloatOps F] in
/-- Such assertions may be put into an invariant: of the work buffer, -/
instance wPts_storable (c : Dev nD) (S f) : BI.Storable (upEmb : UEmb _ 𝕄) (wPts (F := F) c S f) := by unfold wPts; infer_instance
omit [FloatOps F] in
/-- of the landing buffer, -/
instance bPts_storable (c : Dev nD) (S f) : BI.Storable (upEmb : UEmb _ 𝕄) (bPts (F := F) c S f) := by unfold bPts; infer_instance
omit [FloatOps F] in
/-- of the result. -/
instance oPts_storable (c : Dev nD) (S f) : BI.Storable (upEmb : UEmb _ 𝕄) (oPts (F := F) c S f) := by unfold oPts; infer_instance

/-! ## The payloads -/

/-- What an arrival at device `c` brings: the neighbour's half, landed; or the neighbour's rows of the result. -/
def recvPay (c : Dev nD) (st p : Fin 6) : sProp 𝕄 :=
  if st.val < 3 then bPts c (slotReg p (lvl st)) (landC m ρ p (lvl st) c) else oPts c (reg (nb st p c) p (lvl st)) (outC m ρ)

/-- What comes back to device `c` when its transfer has left: the elements it sent. -/
def sendPay (c : Dev nD) (st p : Fin 6) : sProp 𝕄 :=
  if st.val < 3 then wPts c (reg (nb st p c) p (lvl st)) (accC m ρ p (lvl st).val c) else oPts c (reg c p (lvl st)) (outC m ρ)

/-- The elements of its neighbour that device `c`'s transfer writes, at any contents. -/
def dst (c : Dev nD) (st p : Fin 6) : sProp 𝕄 :=
  if st.val < 3 then iprop(∃ f, bPts (nb st p c) (slotReg p (lvl st)) f) else iprop(∃ f, oPts (nb st p c) (reg c p (lvl st)) f)

/-- The stage that goes out at a level, and the stage that comes back at it. -/
def up (s : Fin 3) : Fin 6 := (![0, 1, 2] : Fin 3 → Fin 6) s
/-- and the stage back. -/
def dn (s : Fin 3) : Fin 6 := (![5, 4, 3] : Fin 3 → Fin 6) s

/-- The stage out of level `s` has level `s`, -/
theorem lvl_up (s : Fin 3) : lvl (up s) = s := by revert s; decide
/-- and so has the stage back. -/
theorem lvl_dn (s : Fin 3) : lvl (dn s) = s := by revert s; decide

/-- What the neighbour along dimension `d` hands device `c` at the barrier: where `c`'s transfers along `d` write. -/
def barPay (c : Dev nD) (d : Fin 3) : sProp 𝕄 :=
  bigSep Finset.univ fun p : Fin 6 => iprop(dst c (up (lev p d)) p ∗ dst c (dn (lev p d)) p)

/-- What a receive semaphore hands over may be put into an invariant, -/
instance recvPay_storable (c : Dev nD) (st p : Fin 6) : BI.Storable (upEmb : UEmb _ 𝕄) (recvPay m ρ c st p) := by
  unfold recvPay; split <;> infer_instance
/-- so may what a send semaphore hands over, -/
instance sendPay_storable (c : Dev nD) (st p : Fin 6) : BI.Storable (upEmb : UEmb _ 𝕄) (sendPay m ρ c st p) := by
  unfold sendPay; split <;> infer_instance
omit [FloatOps F] in
/-- a copy's destination -/
instance dst_storable (c : Dev nD) (st p : Fin 6) : BI.Storable (upEmb : UEmb _ 𝕄) (dst (F := F) c st p) := by
  unfold dst; split <;> infer_instance
omit [FloatOps F] in
/-- and what a barrier signal hands over. -/
instance barPay_storable (c : Dev nD) (d : Fin 3) : BI.Storable (upEmb : UEmb _ 𝕄) (barPay (F := F) c d) := by
  unfold barPay; infer_instance

/-! ## The schedule -/

/-- The exchange a semaphore number belongs to. -/
def xch (q : DmaSem sig) : Fin 6 × Fin 6 := (Fin.ofNat 6 ((q.val - 2) % 36 / 6), Fin.ofNat 6 ((q.val - 2) % 6))

/-- The later 36 are receive semaphores. -/
abbrev isRecv (q : DmaSem sig) : Prop := 38 ≤ q.val

/-- One round, round 0: a barrier cell has three duties of one unit, one for each dimension; a send or receive cell one
    duty of the transfer's credit. -/
def Rd : Rounds.Schedule (GSem nD τ sig) (Fin 3) 𝕄 where
  duties g r := if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma q => amt (xch q).1 (xch q).2
  payload g _ d := match g.2 with
    | .reg _ => barPay g.1.1 d
    | .dma q => if isRecv q then recvPay m ρ g.1.1 (xch q).1 (xch q).2 else sendPay m ρ g.1.1 (xch q).1 (xch q).2
  amount_pos g _ _ _ := by
    rcases g with ⟨t, s | q⟩
    · exact Nat.one_pos
    · exact amt_pos _ _

/-- Every payload may be put into an invariant. -/
instance Rd_payload_storable (g : GSem nD τ sig) (r : ℕ) (d : Fin 3) :
    BI.Storable (upEmb : UEmb _ 𝕄) ((Rd (F := F) m ρ).payload g r d) := by
  rcases g with ⟨t, s | q⟩
  · show BI.Storable upEmb (barPay t.1 d); infer_instance
  · show BI.Storable upEmb (if isRecv q then recvPay m ρ t.1 (xch q).1 (xch q).2 else sendPay m ρ t.1 (xch q).1 (xch q).2)
    split <;> infer_instance

section Sched
variable (c : Dev nD) (st p : Fin 6)

/-- The exchange of a send semaphore, -/
theorem xch_send : xch (⟨2 + (sIdx st p).val, by omega⟩ : Fin 74) = (st, p) := by revert st p; decide
/-- and of a receive semaphore. -/
theorem xch_recv : xch (⟨2 + (rIdx st p).val, by omega⟩ : Fin 74) = (st, p) := by revert st p; decide
/-- A send semaphore is no receive semaphore; -/
theorem send_not_recv : ¬ isRecv (⟨2 + (sIdx st p).val, by omega⟩ : Fin 74) := by revert st p; decide
/-- a receive semaphore is one. -/
theorem recv_is_recv : isRecv (⟨2 + (rIdx st p).val, by omega⟩ : Fin 74) := by revert st p; decide

omit [FloatOps F] in
/-- A send or receive cell has one duty, -/
theorem duties_own [FloatOps F] (j : Fin 72) : (Rd (F := F) m ρ).duties ((c : Thread nD τ), osem j) 0 = {0} := by
  dsimp only [Rd]; rw [if_pos ⟨rfl, rfl⟩]; exact if_pos (Nat.le_add_right _ _)
/-- a barrier cell one for every dimension, -/
theorem duties_bar : (Rd (F := F) m ρ).duties (barCell c) 0 = Finset.univ := by
  dsimp only [Rd]; rw [if_pos ⟨rfl, rfl⟩]; exact if_pos rfl
/-- and there is one round only. -/
theorem duties_later (g : GSem nD τ sig) : ∀ r, 1 ≤ r → (Rd (F := F) m ρ).duties g r = ∅ :=
  fun r hr => by dsimp only [Rd]; rw [if_neg fun h => by omega]

/-- A barrier signal is one unit, -/
theorem amount_bar (d : Fin 3) : (Rd (F := F) m ρ).amount (barCell c) 0 d = 1 := rfl
/-- a copy pays its sender -/
theorem amount_send (d : Fin 3) : (Rd (F := F) m ρ).amount (sendCell c st p) 0 d = amt st p := by
  show amt (xch _).1 (xch _).2 = _; rw [xch_send]
/-- and its receiver the same credit. -/
theorem amount_recv (d : Fin 3) : (Rd (F := F) m ρ).amount (recvCell c st p) 0 d = amt st p := by
  show amt (xch _).1 (xch _).2 = _; rw [xch_recv]

/-- So a round of a barrier cell is three units, -/
theorem expect_bar : (Rd (F := F) m ρ).expect (barCell c) 0 = 3 := by
  unfold Schedule.expect Schedule.amountOf
  rw [duties_bar, Finset.sum_congr rfl fun d _ => amount_bar m ρ c d]; rfl
/-- of a send cell the credit of its copy, -/
theorem expect_send : (Rd (F := F) m ρ).expect (sendCell c st p) 0 = amt st p := by
  unfold Schedule.expect Schedule.amountOf; rw [duties_own, Finset.sum_singleton, amount_send]
/-- and of a receive cell too. -/
theorem expect_recv : (Rd (F := F) m ρ).expect (recvCell c st p) 0 = amt st p := by
  unfold Schedule.expect Schedule.amountOf; rw [duties_own, Finset.sum_singleton, amount_recv]

/-- What a barrier signal hands over, -/
theorem payload_bar (d : Fin 3) : (Rd (F := F) m ρ).payload (barCell c) 0 d = barPay c d := rfl
/-- what a send cell hands over, -/
theorem payload_send (d : Fin 3) : (Rd (F := F) m ρ).payload (sendCell c st p) 0 d = sendPay m ρ c st p := by
  show (if isRecv _ then recvPay m ρ c (xch _).1 (xch _).2 else sendPay m ρ c (xch _).1 (xch _).2) = _
  rw [if_neg (send_not_recv st p), xch_send]
/-- and what a receive cell hands over. -/
theorem payload_recv (d : Fin 3) : (Rd (F := F) m ρ).payload (recvCell c st p) 0 d = recvPay m ρ c st p := by
  show (if isRecv _ then recvPay m ρ c (xch _).1 (xch _).2 else sendPay m ρ c (xch _).1 (xch _).2) = _
  rw [if_pos (recv_is_recv st p), xch_recv]

/-- A whole round of a barrier cell hands over all three payloads, -/
theorem rest_bar : bigSep ((Rd (F := F) m ρ).duties (barCell c) 0 \ ∅) (fun d => (Rd (F := F) m ρ).payload (barCell c) 0 d)
    = bigSep Finset.univ (barPay c) := by
  rw [Finset.sdiff_empty, duties_bar]; rfl
/-- of a send cell its one, -/
theorem rest_send : bigSep ((Rd (F := F) m ρ).duties (sendCell c st p) 0 \ ∅) (fun d => (Rd (F := F) m ρ).payload (sendCell c st p) 0 d)
    = sendPay m ρ c st p := by
  rw [Finset.sdiff_empty, duties_own, bigSep_singleton, payload_send]
/-- and of a receive cell its one. -/
theorem rest_recv : bigSep ((Rd (F := F) m ρ).duties (recvCell c st p) 0 \ ∅) (fun d => (Rd (F := F) m ρ).payload (recvCell c st p) 0 d)
    = recvPay m ρ c st p := by
  rw [Finset.sdiff_empty, duties_own, bigSep_singleton, payload_recv]

end Sched

/-! ## What a device owes, and the levels -/

/-- The exchanges in the order the kernel starts them: at stage 0 the parts in the order of issue, then stage by stage. -/
def issue : List (Fin 6) := [0, 2, 4, 1, 3, 5]
/-- The order in which the parts go on, -/
def order : List (Fin 6) := [2, 4, 0, 3, 5, 1]
/-- and with it the order of all copies, by stage and part. -/
def sched : List (Fin 6 × Fin 6) :=
  issue.map (Prod.mk 0) ++ order.map (Prod.mk 1) ++ order.map (Prod.mk 2) ++ order.map (Prod.mk 3) ++ order.map (Prod.mk 4)
    ++ order.map (Prod.mk 5)

/-- What device `c` owes for the exchanges of a list, the first to be paid last in the sum. -/
def owed (c : Dev nD) : List (Fin 6 × Fin 6) → CellTallies nD τ sig Unit
  | [] => 0
  | e :: l => owed c l + tallyAt (recvCell (nb e.1 e.2 c) e.1 e.2) () (amt e.1 e.2)

/-- What is owed before the barrier signals along dimensions 2; 1, 2; 0, 1, 2. -/
def O₁ (c : Dev nD) : CellTallies nD τ sig Unit := owed c sched + tallyAt (barCell (peer 2 c)) () 1
/-- after the first signal, -/
def O₂ (c : Dev nD) : CellTallies nD τ sig Unit := O₁ c + tallyAt (barCell (peer 1 c)) () 1
/-- and at the beginning. -/
def O₀ (c : Dev nD) : CellTallies nD τ sig Unit := O₂ c + tallyAt (barCell (peer 0 c)) () 1

/-- Every cell of a TensorCore has a level; -/
def L (g : GSem nD τ sig) : Finset Unit := if g.1.2 = .tc then {()} else ∅
/-- A barrier cell is at 1, a receive cell above its stage plus one, everything else at 0. -/
def lv (g : GSem nD τ sig) (_ : Unit) : ℕ := match g.2 with
  | .reg s => if s = barS then 1 else 0
  | .dma q => if isRecv q then 2 + (xch q).1.val else 0

/-- Cells of other threads have no level, -/
theorem L_of_ne (g : GSem nD τ sig) (h : g.1.2 ≠ .tc) : L g = ∅ := if_neg h
/-- those of a TensorCore have one. -/
theorem L_tc (c : Dev nD) (sm : SemLoc sig) : L ((c : Thread nD τ), sm) = {()} := if_pos rfl
/-- A receive cell's level is above the barrier's, by stage; -/
theorem lv_recv (c : Dev nD) (st p : Fin 6) (u : Unit) : lv (recvCell c st p) u = 2 + st.val := by
  show (if isRecv _ then 2 + (xch _).1.val else 0) = _
  rw [if_pos (recv_is_recv st p), xch_recv]
/-- a send cell has the lowest, -/
theorem lv_send (c : Dev nD) (st p : Fin 6) (u : Unit) : lv (sendCell c st p) u = 0 := if_neg (send_not_recv st p)
/-- the barrier cell the next. -/
theorem lv_bar (c : Dev nD) (u : Unit) : lv (barCell c) u = 1 := by
  show (if barS = barS then 1 else 0) = 1; exact if_pos rfl

/-- A tally of a sum with one cell's is at that cell or among the rest. -/
theorem pos_of_add {O : CellTallies nD τ sig Unit} {g g' : GSem nD τ sig} {u : Unit} {k : ℕ} (h : 0 < (O + tallyAt g' () k) g u) :
    g = g' ∨ 0 < O g u := by
  rw [Pi.add_apply, Finsupp.add_apply, tallyAt_apply] at h
  by_cases he : g = g' ∧ u = ()
  · exact .inl he.1
  · rw [if_neg he, add_zero] at h; exact .inr h

/-- A tally among those owed is at the receive cell of one of the exchanges. -/
theorem owed_pos {c : Dev nD} {l : List (Fin 6 × Fin 6)} {g : GSem nD τ sig} {u : Unit} (h : 0 < owed c l g u) :
    ∃ e ∈ l, g = recvCell (nb e.1 e.2 c) e.1 e.2 := by
  induction l with
  | nil => exact absurd h (Nat.lt_irrefl 0)
  | cons e l ih =>
    rw [owed] at h
    rcases pos_of_add h with he | h
    · exact ⟨e, List.mem_cons_self, he⟩
    · obtain ⟨e', h', hg⟩ := ih h
      exact ⟨e', List.mem_cons_of_mem _ h', hg⟩

/-- What is owed at the beginning is owed to a neighbour's barrier cell or receive cell. -/
theorem O₀_pos {c : Dev nD} {g : GSem nD τ sig} {u : Unit} (h : 0 < O₀ c g u) :
    (∃ d : Dev nD, g = barCell d) ∨ ∃ e ∈ sched, g = recvCell (nb e.1 e.2 c) e.1 e.2 := by
  unfold O₀ at h
  rcases pos_of_add h with he | h
  · exact .inl ⟨_, he⟩
  unfold O₂ at h
  rcases pos_of_add h with he | h
  · exact .inl ⟨_, he⟩
  unfold O₁ at h
  rcases pos_of_add h with he | h
  · exact .inl ⟨_, he⟩
  exact .inr (owed_pos h)

omit [FloatOps F] in
/-- A cell may be waited on while all that is owed lies at receive cells of higher levels. -/
theorem mayWait_owed (c : Dev nD) (sm : SemLoc sig) (l : List (Fin 6 × Fin 6))
    (h : ∀ e ∈ l, lv ((c : Thread nD τ), sm) () < 2 + e.1.val) :
    (levAts L lv : sProp 𝕄) ⊢ MayWait (c : Thread nD τ) sm () (owed c l) :=
  MayOwe.of_cut (L := L) (lev := lv) (lv ((c : Thread nD τ), sm) ()) (fun q hq => by rw [Finset.mem_singleton.mp hq, L_tc]; exact Finset.mem_singleton_self _)
    (fun g u hg => by obtain ⟨e, _, rfl⟩ := owed_pos hg; rw [L_tc]; exact Finset.mem_singleton_self _)
    (fun q hq => by rw [Finset.mem_singleton.mp hq])
    (fun g u hg => by obtain ⟨e, he, rfl⟩ := owed_pos hg; rw [lv_recv]; exact h e he)

omit [FloatOps F] in
/-- The staging semaphores may be waited on at the start and at the end. -/
theorem mayWait_stage (c : Dev nD) (q : DmaSem sig) (hq : ¬ isRecv q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨e, _, rfl⟩ <;> exact Finset.mem_singleton_self _)
      (fun p hp => by rw [Finset.mem_singleton.mp hp]; exact (if_neg hq).le)
      (fun g u hg => by
        rcases O₀_pos hg with ⟨d, rfl⟩ | ⟨e, _, rfl⟩
        · rw [lv_bar]; decide
        · rw [lv_recv]; omega)
  · rw [MayWait_zero]; iintro -; iempintro

end Cert.KernelIdeal.Cube
-- ==== Proof.KernelIdeal.Steps.lean ====
/-
# The steps of the kernel

The kernel's text consists of a few groups of operations, each written out for every part, stage and level: put the
argument's rows in the work buffer; send; wait for an exchange; add what landed. Here each group is run once, for any
part and stage, with the offsets and the neighbour's number left to be named at each use.
-/
module

public import proofs.«01_k».proof.Proof.KernelIdeal.Protocol
public import Idealize.ShloMosaic.Lib.Pipeline.Value
public import Idealize.ShloMosaic.Lib.ValueLayout

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents of a rectangle -/

/-- A view written with what it reads of `g` holds `g`. -/
theorem wrote {sp : Space} {s : Shape} {e : EltTy} {c : Thread nD τ} (v : View sig c.2.kind sp s e)
    (fd g : Buf (Elt F) (v.loc c)) (w : s.Idx → Elt F e) (h : w = v.read (Elt F) g) :
    (v.loc c ↦[v.set]{fullShare} (v.write (Elt F) fd w Finset.univ) : sProp 𝕄) = (v.loc c ↦[v.set]{fullShare} g) := by
  refine pointsTo_congr fun i hi => ?_
  rw [h, View.write_read_eq_piecewise]
  exact Finset.piecewise_eq_of_mem _ _ _ hi

/-- The rows of a unit-stride rectangle, by their coordinates. -/
theorem unit_emb {R n r k : ℕ} (off : Fin 2 → ℕ) (hoff : off = ![r, k]) (inb)
    (j : (⟨2, ![n, 512]⟩ : Shape).Idx) :
    (((Rect.unit (s := Sh R) off ![n, 512] inb).emb j 0 : Fin _) : ℕ) = r + (j 0).val
      ∧ (((Rect.unit (s := Sh R) off ![n, 512] inb).emb j 1 : Fin _) : ℕ) = k + (j 1).val := by
  subst hoff
  constructor
  · rw [Rect.emb_apply]; show r + 1 * (j 0).val = _; rw [one_mul]
  · rw [Rect.emb_apply]; show k + 1 * (j 1).val = _; rw [one_mul]

/-- Dropping the leading unit axis and casting to the same shape keeps the values. -/
theorem drop_apply {n : ℕ} (x : (⟨3, ![1, n, 512]⟩ : Shape).Idx → Elt F .bf16)
    (h : (⟨3, ![1, n, 512]⟩ : Shape).ShapeCasts ⟨2, ![n, 512]⟩) (h' : (⟨2, ![n, 512]⟩ : Shape).ShapeCasts ⟨2, ![n, 512]⟩)
    (j : (⟨2, ![n, 512]⟩ : Shape).Idx) :
    shapeCast ⟨2, ![n, 512]⟩ (shapeCast ⟨2, ![n, 512]⟩ x h) h' j = x (ix3 (0 : Fin 1) (j 0 : Fin n) (j 1 : Fin 512)) := by
  obtain ⟨a, b, rfl⟩ : ∃ (a : Fin n) (b : Fin 512), j = ix2 a b := ⟨j 0, j 1, eq_ix2 j⟩
  rw [shapeCast_self]
  exact shapeCast_1ab_ab_apply x h a b

/-! ## Loads and stores of a rectangle -/

section Access
variable (c : Dev nD) {n r col : ℕ}

/-- A load of a rectangle of the work buffer reads its contents and keeps them; -/
theorem load_w (off : Fin 2 → ℕ) (hoff : off = ![r, col]) {α : Type} {Q : α → sProp 𝕄} {hw hl} {f : (Sh 1024).Idx → Elt F .bf16} {k : ((⟨2, ![n, 512]⟩ : Shape).Idx → Elt F .bf16) → Prog (TpuEff nD τ sig (Elt F) Λ₀ .tc) α} :
    wPts c (box 1024 r n col) f
      ⊢ iprop((wPts c (box 1024 r n col) f
            -∗ wp frame (wpE (defs₀ (F := F)) 𝒱₀ (c : Thread nD τ) none) Set.univ (k fun j => f ((Rect.unit (s := Sh 1024) off ![n, 512] hw).emb j)) Q)
          -∗ wp frame (wpE (defs₀ (F := F)) 𝒱₀ (c : Thread nD τ) none) Set.univ
            (.op (.load wM (Rect.unit (s := S1024x1024) off ![n, 512] hw).toLoadRect hl) k) Q) :=
  wp_load_rect 𝒱₀ (c : Thread nD τ) none Set.univ (m := wM) (r := Rect.unit (s := S1024x1024) off ![n, 512] hw)
    ((View.set_slice_whole _ _).trans (unit_set r n col off hoff hw)).le

/-- of the landing buffer, -/
theorem load_b (off : Fin 2 → ℕ) (hoff : off = ![r, col]) {α : Type} {Q : α → sProp 𝕄} {hw hl} {f : (Sh 1792).Idx → Elt F .bf16} {k : ((⟨2, ![n, 512]⟩ : Shape).Idx → Elt F .bf16) → Prog (TpuEff nD τ sig (Elt F) Λ₀ .tc) α} :
    bPts c (box 1792 r n col) f
      ⊢ iprop((bPts c (box 1792 r n col) f
            -∗ wp frame (wpE (defs₀ (F := F)) 𝒱₀ (c : Thread nD τ) none) Set.univ (k fun j => f ((Rect.unit (s := Sh 1792) off ![n, 512] hw).emb j)) Q)
          -∗ wp frame (wpE (defs₀ (F := F)) 𝒱₀ (c : Thread nD τ) none) Set.univ
            (.op (.load bM (Rect.unit (s := S1792x1024) off ![n, 512] hw).toLoadRect hl) k) Q) :=
  wp_load_rect 𝒱₀ (c : Thread nD τ) none Set.univ (m := bM) (r := Rect.unit (s := S1792x1024) off ![n, 512] hw)
    ((View.set_slice_whole _ _).trans (unit_set r n col off hoff hw)).le

/-- of the staged result. -/
theorem load_o (off : Fin 2 → ℕ) (hoff : off = ![r, col]) {α : Type} {Q : α → sProp 𝕄} {hw hl} {f : (Sh 1024).Idx → Elt F .bf16} {k : ((⟨2, ![n, 512]⟩ : Shape).Idx → Elt F .bf16) → Prog (TpuEff nD τ sig (Elt F) Λ₀ .tc) α} :
    oPts c (box 1024 r n col) f
      ⊢ iprop((oPts c (box 1024 r n col) f
            -∗ wp frame (wpE (defs₀ (F := F)) 𝒱₀ (c : Thread nD τ) none) Set.univ (k fun j => f ((Rect.unit (s := Sh 1024) off ![n, 512] hw).emb j)) Q)
          -∗ wp frame (wpE (defs₀ (F := F)) 𝒱₀ (c : Thread nD τ) none) Set.univ
            (.op (.load oM (Rect.unit (s := S1024x1024) off ![n, 512] hw).toLoadRect hl) k) Q) :=
  wp_load_rect 𝒱₀ (c : Thread nD τ) none Set.univ (m := oM) (r := Rect.unit (s := S1024x1024) off ![n, 512] hw)
    ((View.set_slice_whole _ _).trans (unit_set r n col off hoff hw)).le

/-- A store to a rectangle of the work buffer leaves there what its elements are, -/
theorem store_w (off : Fin 2 → ℕ) (hoff : off = ![r, col]) {α : Type} {Q : α → sProp 𝕄} {hw hst hm} {f g : (Sh 1024).Idx → Elt F .bf16} {w : (⟨2, ![n, 512]⟩ : Shape).Idx → Elt F .bf16}
    (h : ∀ j, w j = g ((Rect.unit (s := Sh 1024) off ![n, 512] hw).emb j)) {k : PUnit → Prog (TpuEff nD τ sig (Elt F) Λ₀ .tc) α} :
    wPts c (box 1024 r n col) f
      ⊢ iprop((wPts c (box 1024 r n col) g -∗ wp frame (wpE (defs₀ (F := F)) 𝒱₀ (c : Thread nD τ) none) Set.univ (k ⟨⟩) Q)
          -∗ wp frame (wpE (defs₀ (F := F)) 𝒱₀ (c : Thread nD τ) none) Set.univ
            (.op (.store wM (Rect.unit (s := S1024x1024) off ![n, 512] hw) w Finset.univ hst hm) k) Q) := by
  have hset := (View.set_slice_whole (cc0_scratch0 : Ref sig .tc) (Rect.unit (s := S1024x1024) off ![n, 512] hw)).trans (unit_set r n col off hoff hw)
  have e := wrote (F := F) (c := (c : Thread nD τ)) ((wM : Memref sig .tc .vmem S1024x1024 .bf16).access (Rect.unit (s := S1024x1024) off ![n, 512] hw)) f g w (funext h)
  unfold wPts
  rw [← hset]
  have := wp_store (Q := Q) (Γ := .empty) (defs := defs₀ (F := F)) 𝒱₀ (c : Thread nD τ) none Set.univ (m := wM) (r := Rect.unit (s := S1024x1024) off ![n, 512] hw)
    (w := w) (Mk := Finset.univ) (hx := hst) (hm := hm) (k := k) (f := f) (S := ((wM : Memref sig .tc .vmem S1024x1024 .bf16).access (Rect.unit (s := S1024x1024) off ![n, 512] hw)).set) (Finset.Subset.refl _)
  rw [e] at this
  exact this

/-- and to the staged result. -/
theorem store_o (off : Fin 2 → ℕ) (hoff : off = ![r, col]) {α : Type} {Q : α → sProp 𝕄} {hw hst hm} {f g : (Sh 1024).Idx → Elt F .bf16} {w : (⟨2, ![n, 512]⟩ : Shape).Idx → Elt F .bf16}
    (h : ∀ j, w j = g ((Rect.unit (s := Sh 1024) off ![n, 512] hw).emb j)) {k : PUnit → Prog (TpuEff nD τ sig (Elt F) Λ₀ .tc) α} :
    oPts c (box 1024 r n col) f
      ⊢ iprop((oPts c (box 1024 r n col) g -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit (s := S1024x1024) off ![n, 512] hw) w Finset.univ hst hm) k) Q) := by
  have hset := (View.set_slice_whole (cc0_stg1_0 : Ref sig .tc) (Rect.unit (s := S1024x1024) off ![n, 512] hw)).trans (unit_set r n col off hoff hw)
  have e := wrote (F := F) (c := (c : Thread nD τ)) ((oM : Memref sig .tc .vmem S1024x1024 .bf16).access (Rect.unit (s := S1024x1024) off ![n, 512] hw)) f g w (funext h)
  unfold oPts
  rw [← hset]
  have := wp_store (Q := Q) (Γ := .empty) (defs := defs₀ (F := F)) 𝒱₀ (c : Thread nD τ) none Set.univ (m := oM) (r := Rect.unit (s := S1024x1024) off ![n, 512] hw)
    (w := w) (Mk := Finset.univ) (hx := hst) (hm := hm) (k := k) (f := f) (S := ((oM : Memref sig .tc .vmem S1024x1024 .bf16).access (Rect.unit (s := S1024x1024) off ![n, 512] hw)).set) (Finset.Subset.refl _)
  rw [e] at this
  exact this

/-- A load of rows of the staged argument reads its contents. -/
theorem load_x (offx : Fin 3 → ℕ) {α : Type} {Q : α → sProp 𝕄} {hw hl} {k : ((⟨3, ![1, n, 512]⟩ : Shape).Idx → Elt F .bf16) → Prog (TpuEff nD τ sig (Elt F) Λ₀ .tc) α} :
    xPts m ρ c
      ⊢ iprop((xPts m ρ c
            -∗ wp frame (wpE (defs₀ (F := F)) 𝒱₀ (c : Thread nD τ) none) Set.univ (k fun j => xstg m ρ c ((Rect.unit (s := S1x1024x1024) offx ![1, n, 512] hw).emb j)) Q)
          -∗ wp frame (wpE (defs₀ (F := F)) 𝒱₀ (c : Thread nD τ) none) Set.univ
            (.op (.load xM (Rect.unit (s := S1x1024x1024) offx ![1, n, 512] hw).toLoadRect hl) k) Q) :=
  wp_load_rect 𝒱₀ (c : Thread nD τ) none Set.univ (m := xM) (r := Rect.unit (s := S1x1024x1024) offx ![1, n, 512] hw) (Finset.subset_univ _)

end Access

/-! ## The first copies -/

/-- Rows of the argument are put in the work buffer. -/
theorem put {n r : ℕ} (c : Dev nD) (p : Fin 6)
    (offx : Fin 3 → ℕ) (hox : offx = ![0, r, col p]) (offw : Fin 2 → ℕ) (how : offw = ![r, col p])
    (pay : Vec F (⟨3, ![1, n, 512]⟩ : Shape) .bf16 → FVec F (⟨2, ![n, 512]⟩ : Shape) .bf16)
    (hpay : ∀ x j, pay x j = x (ix3 (0 : Fin 1) (j 0 : Fin n) (j 1 : Fin 512)))
    {hx hlx hw hlw hst hm} {α : Type} {Q : α → sProp 𝕄} {k : PUnit → Prog (TpuEff nD τ sig (Elt F) Λ₀ .tc) α} :
    iprop(xPts m ρ c ∗ ∃ f, wPts c (box 1024 r n (col p)) f)
      ⊢ iprop(((xPts m ρ c ∗ wPts c (box 1024 r n (col p)) (accC m ρ p 0 c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (Rect.unit (s := S1x1024x1024) offx ![1, n, 512] hx).toLoadRect hlx) fun x =>
              .op (.load wM (Rect.unit (s := S1024x1024) offw ![n, 512] hw).toLoadRect hlw) fun _ =>
              .op (.store wM (Rect.unit (s := S1024x1024) offw ![n, 512] hw) (pay x) Finset.univ hst hm) k) Q) := by
  iintro ⟨Hx, ⟨%f, Hw⟩⟩ Hk
  iapply (load_x m ρ c offx) $$ Hx
  iintro Hx
  iapply (load_w c offw how) $$ Hw
  iintro Hw
  iapply (store_w c offw how (g := accC m ρ p 0 c)
    (fun j => by
      rw [hpay]
      show xstg m ρ c _ = xstg m ρ c _
      congr 1
      obtain ⟨e0, e1⟩ := unit_emb (R := 1024) (n := n) offw how hw j
      funext a
      refine Fin.ext ?_
      subst hox
      fin_cases a
      · rfl
      · exact (congrArg (r + ·) (one_mul _)).trans e0.symm
      · exact (congrArg (col p + ·) (one_mul _)).trans e1.symm)) $$ Hw
  iintro Hw
  iapply Hk
  isplitl [Hx]
  · iexact Hx
  · iexact Hw

/-! ## What stays true throughout -/

/-- The cells of the protocol: on each device the barrier's and those of the kernel's own semaphores. -/
abbrev CIx := Unit ⊕ Fin 72
/-- The cell of a device's member. -/
def kcell (i : Dev nD × CIx) : GSem nD τ sig := match i.2 with
  | .inl _ => barCell i.1
  | .inr j => ((i.1 : Thread nD τ), osem j)

variable (K : Dev nD × CIx → ℕ)

/-- Every cell follows the schedule and has reached its round; the levels are as given. -/
def ctx : sProp 𝕄 :=
  iprop((bigSep Finset.univ fun i : Dev nD × CIx => iprop(cellInv ER (Rd m ρ) (K i) (kcell i) ∗ reached ER (kcell i) 0)) ∗ levAts L lv)

/-- It can be used any number of times. -/
instance ctx_persistent : BI.Persistent (ctx m ρ K) := by unfold ctx; infer_instance

/-- It has the record of every cell -/
theorem ctx_at (i : Dev nD × CIx) : ctx m ρ K ⊢ iprop(cellInv ER (Rd m ρ) (K i) (kcell i) ∗ reached ER (kcell i) 0) := by
  unfold ctx
  exact sep_elim_left.trans (bigSep_elim (Finset.mem_univ i))

/-- and the levels. -/
theorem ctx_levs : ctx m ρ K ⊢ levAts L lv := by unfold ctx; exact sep_elim_right

/-- What device `c` owes, whatever it waits for. -/
def OW (c : Dev nD) (l : List (Fin 6 × Fin 6)) : sProp 𝕄 := iprop(∃ W, owes (c : Thread nD τ) (owed c l) W)

/-- Before exchange `(st, p)`: its cells at their start, the duties of the transfer, the credit of the arrival, and the
    neighbour's elements it writes. -/
def pre (c : Dev nD) (st p : Fin 6) : sProp 𝕄 :=
  iprop(atPos ER (sendCell c st p) 0 ∅ 0 ∗ atPos ER (recvCell c st p) 0 ∅ 0 ∗ dutyTok ER (sendCell c st p) 0 0
    ∗ dutyTok ER (recvCell (nb st p c) st p) 0 0 ∗ cred (tallyAt (recvCell c st p) () (amt st p)) ∗ dst c st p)

/-- While it is under way: its cells at their start, the credits of the departure and of the arrival. -/
def fly (c : Dev nD) (st p : Fin 6) : sProp 𝕄 :=
  iprop(atPos ER (sendCell c st p) 0 ∅ 0 ∗ atPos ER (recvCell c st p) 0 ∅ 0
    ∗ cred (tallyAt (sendCell c st p) () (amt st p)) ∗ cred (tallyAt (recvCell c st p) () (amt st p)))

/-- After it: its semaphores at zero. -/
def fin (c : Dev nD) (st p : Fin 6) : sProp 𝕄 := iprop(semVal (sendCell c st p) 0 ∗ semVal (recvCell c st p) 0)

/-! ## Stages by level -/

section Level
variable (c : Dev nD) (s : Fin 3) (p : Fin 6)

/-- A stage out is one of the first three, -/
theorem up_lt : (up s).val < 3 := by revert s; decide
/-- a stage back is not. -/
theorem dn_ge : ¬ (dn s).val < 3 := by revert s; decide

/-- The partner of a stage out -/
theorem nb_up : nb (up s) p c = peer (ord p s) c := by unfold nb; rw [lvl_up]
/-- and of a stage back. -/
theorem nb_dn : nb (dn s) p c = peer (ord p s) c := by unfold nb; rw [lvl_dn]
/-- The credit of a stage out -/
theorem amt_up : amt (up s) p = credit (rows p s) := by unfold amt; rw [lvl_up]
/-- and of a stage back. -/
theorem amt_dn : amt (dn s) p = credit (rows p s) := by unfold amt; rw [lvl_dn]

omit [FloatOps F] in
/-- A copy out goes into the partner's slot, -/
theorem dst_up : dst (F := F) c (up s) p = iprop(∃ f, bPts (peer (ord p s) c) (slotReg p s) f) := by
  unfold dst; rw [if_pos (up_lt s), nb_up, lvl_up]
omit [FloatOps F] in
/-- a copy back into the partner's result. -/
theorem dst_dn : dst (F := F) c (dn s) p = iprop(∃ f, oPts (peer (ord p s) c) (reg c p s) f) := by
  unfold dst; rw [if_neg (dn_ge s), nb_dn, lvl_dn]
/-- A copy out returns the sender its region of the work buffer, -/
theorem send_up_eq : sendPay m ρ c (up s) p = wPts c (reg (peer (ord p s) c) p s) (accC m ρ p s.val c) := by
  unfold sendPay; rw [if_pos (up_lt s), nb_up, lvl_up]
/-- a copy back its region of the result. -/
theorem send_dn_eq : sendPay m ρ c (dn s) p = oPts c (reg c p s) (outC m ρ) := by
  unfold sendPay; rw [if_neg (dn_ge s), lvl_dn]
/-- A copy out leaves the partner's values in the slot, -/
theorem recv_up_eq : recvPay m ρ c (up s) p = bPts c (slotReg p s) (landC m ρ p s c) := by
  unfold recvPay; rw [if_pos (up_lt s), lvl_up]
/-- a copy back the result in the partner's region. -/
theorem recv_dn_eq : recvPay m ρ c (dn s) p = oPts c (reg (peer (ord p s) c) p s) (outC m ρ) := by
  unfold recvPay; rw [if_neg (dn_ge s), nb_dn, lvl_dn]

end Level

/-! ## Sending -/

/-- The kernel's semaphores by their place in the two arrays. -/
theorem sendSem (k : ℕ) (st p : Fin 6) (h : k = 6 * st.val + p.val) {inb sq} :
    ((SemArray.slice cc0_scratch2 (Rect.unit (s := S36) ![k] ![1] inb)).squeeze S_ sq).sem = (⟨2 + (sIdx st p).val, by omega⟩ : Fin 74) := by
  subst h
  revert st p; decide

/-- and the receive semaphores. -/
theorem recvSem (k : ℕ) (st p : Fin 6) (h : k = 6 * st.val + p.val) {inb sq} :
    ((SemArray.slice cc0_scratch3 (Rect.unit (s := S36) ![k] ![1] inb)).squeeze S_ sq).sem = (⟨2 + (rIdx st p).val, by omega⟩ : Fin 74) := by
  subst h
  revert st p; decide

end Cert.KernelIdeal.Cube
-- ==== Proof.KernelIdeal.Exchange.lean ====
/-
# One exchange

The transfer that starts an exchange and the two waits that end it, for any part and level.
-/
module

public import proofs.«01_k».proof.Proof.KernelIdeal.Steps

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## Ownership of a slice -/

/-- Owning what a slice of the work buffer covers is owning its box of the buffer, -/
theorem w_slice (c : Dev nD) {n r k : ℕ} (off : Fin 2 → ℕ) (hoff : off = ![r, k]) {hw hwr} (f : (Sh 1024).Idx → Elt F .bf16) :
    (((wM : Memref sig .tc .vmem S1024x1024 .bf16).slice (Rect.unit (s := S1024x1024) off ![n, 512] hw) hwr).view.loc (c : Thread nD τ)
      ↦[((wM : Memref sig .tc .vmem S1024x1024 .bf16).slice (Rect.unit (s := S1024x1024) off ![n, 512] hw) hwr).view.set]{fullShare} f : sProp 𝕄)
      = wPts c (box 1024 r n k) f := by
  unfold wPts
  have h := (View.set_slice_whole (cc0_scratch0 : Ref sig .tc) (Rect.unit (s := S1024x1024) off ![n, 512] hw)).trans (unit_set r n k off hoff hw)
  rw [← h]

/-- and so with the landing buffer -/
theorem b_slice (c : Dev nD) {n r k : ℕ} (off : Fin 2 → ℕ) (hoff : off = ![r, k]) {hw hwr} (f : (Sh 1792).Idx → Elt F .bf16) :
    (((bM : Memref sig .tc .vmem S1792x1024 .bf16).slice (Rect.unit (s := S1792x1024) off ![n, 512] hw) hwr).view.loc (c : Thread nD τ)
      ↦[((bM : Memref sig .tc .vmem S1792x1024 .bf16).slice (Rect.unit (s := S1792x1024) off ![n, 512] hw) hwr).view.set]{fullShare} f : sProp 𝕄)
      = bPts c (box 1792 r n k) f := by
  unfold bPts
  have h := (View.set_slice_whole (cc0_scratch1 : Ref sig .tc) (Rect.unit (s := S1792x1024) off ![n, 512] hw)).trans (unit_set r n k off hoff hw)
  rw [← h]

/-- and the staged result. -/
theorem o_slice (c : Dev nD) {n r k : ℕ} (off : Fin 2 → ℕ) (hoff : off = ![r, k]) {hw hwr} (f : (Sh 1024).Idx → Elt F .bf16) :
    (((oM : Memref sig .tc .vmem S1024x1024 .bf16).slice (Rect.unit (s := S1024x1024) off ![n, 512] hw) hwr).view.loc (c : Thread nD τ)
      ↦[((oM : Memref sig .tc .vmem S1024x1024 .bf16).slice (Rect.unit (s := S1024x1024) off ![n, 512] hw) hwr).view.set]{fullShare} f : sProp 𝕄)
      = oPts c (box 1024 r n k) f := by
  unfold oPts
  have h := (View.set_slice_whole (cc0_stg1_0 : Ref sig .tc) (Rect.unit (s := S1024x1024) off ![n, 512] hw)).trans (unit_set r n k off hoff hw)
  rw [← h]

/-! ## The transfers -/

/-- What the neighbour finds in its slot, element by element, is what was sent. -/
theorem landed (c : Dev nD) (s : Fin 3) (p : Fin 6) {n : ℕ} (off : Fin 2 → ℕ) (hoff : off = ![seg (peer (ord p s) c) p s, col p])
    (offb : Fin 2 → ℕ) (hoffb : offb = ![slot p s, col p]) (hw hb) (j : (⟨2, ![n, 512]⟩ : Shape).Idx) :
    accC m ρ p s.val c ((Rect.unit (s := Sh 1024) off ![n, 512] hw).emb j)
      = landC m ρ p s (peer (ord p s) c) ((Rect.unit (s := Sh 1792) offb ![n, 512] hb).emb j) := by
  obtain ⟨e0, e1⟩ := unit_emb (R := 1024) (n := n) off hoff hw j
  obtain ⟨b0, b1⟩ := unit_emb (R := 1792) (n := n) offb hoffb hb j
  unfold landC accC
  rw [land_apply plus (xin m ρ) p s (peer (ord p s) c) ((Rect.unit (s := Sh 1792) offb ![n, 512] hb).emb j)
    ((Rect.unit (s := Sh 1024) off ![n, 512] hw).emb j) (by rw [e0, b0]; omega) (by rw [e1, b1]), peer_peer]

/-- Half of what device `c` holds at level `s` of part `p` goes to the neighbour's slot. -/
theorem send_up (c : Dev nD) (s : Fin 3) (p st : Fin 6) (hst : st = up s) (l : List (Fin 6 × Fin 6)) {n : ℕ} (hn : n = rows p s)
    (off : Fin 2 → ℕ) (hoff : off = ![seg (peer (ord p s) c) p s, col p])
    (offb : Fin 2 → ℕ) (hoffb : offb = ![slot p s, col p])
    (dev : ℕ) (hdev : dev = (peer (ord p s) c).val) {hlt : dev < nD}
    {ss rs : DmaSem sig} (hss : ss = (⟨2 + (sIdx st p).val, by omega⟩ : Fin 74)) (hrs : rs = (⟨2 + (rIdx st p).val, by omega⟩ : Fin 74))
    {hw hwr hb hbr hsc hsrc hdst hsem} {α : Type} {Q : α → sProp 𝕄} {k : PUnit → Prog (TpuEff nD τ sig (Elt F) Λ₀ .tc) α} :
    ctx m ρ K
      ⊢ iprop(OW c ((st, p) :: l) -∗ pre c st p -∗ wPts c (reg (peer (ord p s) c) p s) (accC m ρ p s.val c)
          -∗ ((OW c l ∗ fly c st p) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma ((wM : Memref sig .tc .vmem S1024x1024 .bf16).slice (Rect.unit (s := S1024x1024) off ![n, 512] hw) hwr)
              (.remote (Dev.tc ⟨dev, hlt⟩ : Thread nD τ)
                ((bM : Memref sig .tc .vmem S1792x1024 .bf16).slice (Rect.unit (s := S1792x1024) offb ![n, 512] hb) hbr) (.dma ss) hsc)
              (.dma rs) hsrc hdst hsem) k) Q) := by
  subst hst
  subst hn hdev hss hrs
  unfold pre OW fly
  rw [dst_up, nb_up]
  iintro #HC ⟨%W, Ho⟩ ⟨Hat, Har, Hts, Htr, Hcr, ⟨%fd, Hd⟩⟩ Hs Hk
  ihave #HS := (ctx_at m ρ K (c, .inr (sIdx (up s) p))) $$ HC
  ihave #HR := (ctx_at m ρ K (peer (ord p s) c, .inr (rIdx (up s) p))) $$ HC
  icases HS with ⟨HIs, HRs⟩
  icases HR with ⟨HIr, HRr⟩
  have hnb := nb_up c s p
  have eS : wPts c (reg (peer (ord p s) c) p s) (accC m ρ p s.val c) = _ := (w_slice c off hoff (hw := hw) (hwr := hwr) _).symm
  have eD : bPts (peer (ord p s) c) (slotReg p s) fd = _ := (b_slice (peer (ord p s) c) offb hoffb (hw := hb) (hwr := hbr) fd).symm
  have eL : bPts (peer (ord p s) c) (slotReg p s) (landC m ρ p s (peer (ord p s) c)) = _ :=
    (b_slice (peer (ord p s) c) offb hoffb (hw := hb) (hwr := hbr) _).symm
  iapply (Rounds.wp_send_pointsTo 𝒱₀ ER (Rd m ρ) (c : Thread nD τ) none (c' := (peer (ord p s) c : Thread nD τ))
    (sS := .dma (⟨2 + (sIdx (up s) p).val, _⟩ : Fin 74)) (sem := .dma (⟨2 + (rIdx (up s) p).val, _⟩ : Fin 74))
    (src := (wM : Memref sig .tc .vmem S1024x1024 .bf16).slice (Rect.unit (s := S1024x1024) off ![rows p s, 512] hw) hwr)
    (dst := (bM : Memref sig .tc .vmem S1792x1024 .bf16).slice (Rect.unit (s := S1792x1024) offb ![rows p s, 512] hb) hbr)
    (κ₁ := K (c, .inr (sIdx (up s) p))) (κ₂ := K (peer (ord p s) c, .inr (rIdx (up s) p)))
    (r₁ := 0) (r₂ := 0) (d₁ := 0) (d₂ := 0) (fs := accC m ρ p s.val c) (fd := fd)
    (by rw [duties_own]; exact Finset.mem_singleton_self _) (by rw [duties_own]; exact Finset.mem_singleton_self _)
    () () (amt (up s) p) (amt_up s p).symm (amount_send m ρ c (up s) p 0) (amount_recv m ρ (peer (ord p s) c) (up s) p 0) (owed c l)
    (O₀ := owed c ((up s, p) :: l)) (by show owed c l + tallyAt (recvCell (nb (up s) p c) (up s) p) () (amt (up s) p) = _; rw [hnb]) (W := W)
    (by rw [payload_send m ρ c (up s) p, send_up_eq, eS])
    (by
      rw [payload_recv m ρ _ (up s) p, recv_up_eq, eL]
      exact Entails.of_eq (wrote (F := F) (c := (peer (ord p s) c : Thread nD τ))
        ((bM : Memref sig .tc .vmem S1792x1024 .bf16).slice (Rect.unit (s := S1792x1024) offb ![rows p s, 512] hb) hbr).view fd
        (landC m ρ p s (peer (ord p s) c)) _ (funext fun j => landed m ρ c s p off hoff offb hoffb hw hb j)))) $$ [Hs Hd Ho Hts Htr]
  · isplitr; · iexact HIs
    isplitr; · iexact HIr
    isplitl [Hs]; · iapply (Entails.of_eq eS) $$ Hs
    isplitl [Hd]; · iapply (Entails.of_eq eD) $$ Hd
    isplitl [Ho]; · iexact Ho
    isplitl [Hts]; · iexact Hts
    isplitr; · iexact HRs
    isplitl [Htr]; · iexact Htr
    iexact HRr
  iintro ⟨Hcs, Ho⟩
  iapply Hk
  isplitl [Ho]; · iexists W; iexact Ho
  isplitl [Hat]; · iexact Hat
  isplitl [Har]; · iexact Har
  isplitl [Hcs]; · iexact Hcs
  iexact Hcr

/-- Rows of the result go to the same rows of the neighbour's. -/
theorem send_dn (c : Dev nD) (s : Fin 3) (p st : Fin 6) (hst : st = dn s) (l : List (Fin 6 × Fin 6)) {n : ℕ} (hn : n = rows p s)
    (off : Fin 2 → ℕ) (hoff : off = ![seg c p s, col p])
    (dev : ℕ) (hdev : dev = (peer (ord p s) c).val) {hlt : dev < nD}
    {ss rs : DmaSem sig} (hss : ss = (⟨2 + (sIdx st p).val, by omega⟩ : Fin 74)) (hrs : rs = (⟨2 + (rIdx st p).val, by omega⟩ : Fin 74))
    {hw hwr hw' hwr' hsc hsrc hdst hsem} {α : Type} {Q : α → sProp 𝕄} {k : PUnit → Prog (TpuEff nD τ sig (Elt F) Λ₀ .tc) α} :
    ctx m ρ K
      ⊢ iprop(OW c ((st, p) :: l) -∗ pre c st p -∗ oPts c (reg c p s) (outC m ρ)
          -∗ ((OW c l ∗ fly c st p) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma ((oM : Memref sig .tc .vmem S1024x1024 .bf16).slice (Rect.unit (s := S1024x1024) off ![n, 512] hw) hwr)
              (.remote (Dev.tc ⟨dev, hlt⟩ : Thread nD τ)
                ((oM : Memref sig .tc .vmem S1024x1024 .bf16).slice (Rect.unit (s := S1024x1024) off ![n, 512] hw') hwr') (.dma ss) hsc)
              (.dma rs) hsrc hdst hsem) k) Q) := by
  subst hst
  subst hn hdev hss hrs
  unfold pre OW fly
  rw [dst_dn, nb_dn]
  iintro #HC ⟨%W, Ho⟩ ⟨Hat, Har, Hts, Htr, Hcr, ⟨%fd, Hd⟩⟩ Hs Hk
  ihave #HS := (ctx_at m ρ K (c, .inr (sIdx (dn s) p))) $$ HC
  ihave #HR := (ctx_at m ρ K (peer (ord p s) c, .inr (rIdx (dn s) p))) $$ HC
  icases HS with ⟨HIs, HRs⟩
  icases HR with ⟨HIr, HRr⟩
  have hnb := nb_dn c s p
  have eS : oPts c (reg c p s) (outC m ρ) = _ := (o_slice c off hoff (hw := hw) (hwr := hwr) _).symm
  have eD (f : (Sh 1024).Idx → Elt F .bf16) : oPts (peer (ord p s) c) (reg c p s) f = _ := (o_slice (peer (ord p s) c) off hoff (hw := hw') (hwr := hwr') f).symm
  iapply (Rounds.wp_send_pointsTo 𝒱₀ ER (Rd m ρ) (c : Thread nD τ) none (c' := (peer (ord p s) c : Thread nD τ))
    (sS := .dma (⟨2 + (sIdx (dn s) p).val, _⟩ : Fin 74)) (sem := .dma (⟨2 + (rIdx (dn s) p).val, _⟩ : Fin 74))
    (src := (oM : Memref sig .tc .vmem S1024x1024 .bf16).slice (Rect.unit (s := S1024x1024) off ![rows p s, 512] hw) hwr)
    (dst := (oM : Memref sig .tc .vmem S1024x1024 .bf16).slice (Rect.unit (s := S1024x1024) off ![rows p s, 512] hw') hwr')
    (κ₁ := K (c, .inr (sIdx (dn s) p))) (κ₂ := K (peer (ord p s) c, .inr (rIdx (dn s) p)))
    (r₁ := 0) (r₂ := 0) (d₁ := 0) (d₂ := 0) (fs := outC m ρ) (fd := fd)
    (by rw [duties_own]; exact Finset.mem_singleton_self _) (by rw [duties_own]; exact Finset.mem_singleton_self _)
    () () (amt (dn s) p) (amt_dn s p).symm (amount_send m ρ c (dn s) p 0) (amount_recv m ρ (peer (ord p s) c) (dn s) p 0) (owed c l)
    (O₀ := owed c ((dn s, p) :: l)) (by show owed c l + tallyAt (recvCell (nb (dn s) p c) (dn s) p) () (amt (dn s) p) = _; rw [hnb]) (W := W)
    (by rw [payload_send m ρ c (dn s) p, send_dn_eq, eS])
    (by
      rw [payload_recv m ρ _ (dn s) p, recv_dn_eq, peer_peer, eD]
      exact Entails.of_eq (wrote (F := F) (c := (peer (ord p s) c : Thread nD τ))
        ((oM : Memref sig .tc .vmem S1024x1024 .bf16).slice (Rect.unit (s := S1024x1024) off ![rows p s, 512] hw') hwr').view fd
        (outC m ρ) _ rfl))) $$ [Hs Hd Ho Hts Htr]
  · isplitr; · iexact HIs
    isplitr; · iexact HIr
    isplitl [Hs]; · iapply (Entails.of_eq eS) $$ Hs
    isplitl [Hd]; · iapply (Entails.of_eq (eD fd)) $$ Hd
    isplitl [Ho]; · iexact Ho
    isplitl [Hts]; · iexact Hts
    isplitr; · iexact HRs
    isplitl [Htr]; · iexact Htr
    iexact HRr
  iintro ⟨Hcs, Ho⟩
  iapply Hk
  isplitl [Ho]; · iexists W; iexact Ho
  isplitl [Hat]; · iexact Hat
  isplitl [Har]; · iexact Har
  isplitl [Hcs]; · iexact Hcs
  iexact Hcr

/-! ## The waits -/

/-- A wait on one of the kernel's own semaphores ends its round: the payload arrives and the counter is at zero. -/
theorem wait_own (c : Dev nD) (j : Fin 72) (l : List (Fin 6 × Fin 6)) (h : ∀ e ∈ l, lv ((c : Thread nD τ), osem j) () < 2 + e.1.val)
    {N n : ℕ} (hN : (Rd (F := F) m ρ).expect ((c : Thread nD τ), osem j) 0 = N)
    {sem : DmaSem sig} (hsem : sem = (⟨2 + j.val, by omega⟩ : Fin 74))
    {src dst : Memref sig .tc .vmem ⟨2, ![n, 512]⟩ .bf16} (hcr : dst.view.dmaCredit = N)
    {hs hd} {α : Type} {Q : α → sProp 𝕄} {k : PUnit → Prog (TpuEff nD τ sig (Elt F) Λ₀ .tc) α} :
    ctx m ρ K
      ⊢ iprop(OW c l -∗ atPos ER ((c : Thread nD τ), osem j) 0 ∅ 0 -∗ cred (tallyAt ((c : Thread nD τ), osem j) () N)
          -∗ ((OW c l ∗ semVal ((c : Thread nD τ), osem j) 0
                ∗ bigSep ((Rd (F := F) m ρ).duties ((c : Thread nD τ), osem j) 0 \ ∅) fun d => (Rd (F := F) m ρ).payload ((c : Thread nD τ), osem j) 0 d)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hs hd) k) Q) := by
  subst hsem
  subst hcr
  unfold OW
  iintro #HC ⟨%W, Ho⟩ Hat Hcr Hk
  ihave #HS := (ctx_at m ρ K (c, .inr j)) $$ HC
  ihave #HL := (ctx_levs m ρ K) $$ HC
  icases HS with ⟨HI, HRs⟩
  iapply (Rounds.wp_wait_rest_token 𝒱₀ ER (Rd m ρ) (c : Thread nD τ) none (sm := osem j) (κ := K (c, .inr j))
    (wpE_waitDma2_eq 𝒱₀ (c : Thread nD τ) none Set.univ) (Set.mem_univ _) () (O := owed c l) (W := W) (R := 0) (m := 0) (T := ∅)
    (by rw [zero_add]; exact hN.symm)) $$ [Hcr Ho Hat]
  · isplitr; · iexact HI
    isplitl [Hcr]; · iexact Hcr
    isplitl [Ho]; · iexact Ho
    isplitr; · iapply (mayWait_owed (F := F) c (osem j) l h) $$ HL
    iexact Hat
  iintro ⟨Ho, Hat, #Hr, Hpay⟩
  imod (cell_close ER (Rd m ρ) (g := ((c : Thread nD τ), osem j)) (κ := K (c, .inr j)) (Es := Set.univ) (Set.mem_univ _)
    (fun h => h) (R := 1) (duties_later m ρ _)) $$ [Hat] with Hv
  · isplitr; · iexact HI
    iexact Hat
  iapply Hk
  isplitl [Ho]; · iexists _; iexact Ho
  isplitl [Hv]; · iexact Hv
  iexact Hpay

/-- The two waits that end an exchange: the elements sent come back, and what the neighbour sent is there. -/
theorem wait_pair (c : Dev nD) (st p : Fin 6) (l : List (Fin 6 × Fin 6)) (h : ∀ e ∈ l, st.val < e.1.val) {n : ℕ}
    {ss rs : DmaSem sig} (hss : ss = (⟨2 + (sIdx st p).val, by omega⟩ : Fin 74)) (hrs : rs = (⟨2 + (rIdx st p).val, by omega⟩ : Fin 74))
    {a b a' b' : Memref sig .tc .vmem ⟨2, ![n, 512]⟩ .bf16} (hb : b.view.dmaCredit = amt st p) (hb' : b'.view.dmaCredit = amt st p)
    {h₁ h₂ h₃ h₄} {α : Type} {Q : α → sProp 𝕄} {k : PUnit → Prog (TpuEff nD τ sig (Elt F) Λ₀ .tc) α} :
    ctx m ρ K
      ⊢ iprop(OW c l -∗ fly c st p
          -∗ ((OW c l ∗ fin c st p ∗ sendPay m ρ c st p ∗ recvPay m ρ c st p)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ss a b h₁ h₂) fun _ => .op (.waitDma2 rs a' b' h₃ h₄) k) Q) := by
  have w₁ := @wait_own F _ m ρ K c (sIdx st p) l (fun e he => by rw [lv_send]; omega) _ n (expect_send m ρ c st p)
  have w₂ := @wait_own F _ m ρ K c (rIdx st p) l (fun e he => by rw [lv_recv]; have := h e he; omega) _ n (expect_recv m ρ c st p)
  rw [rest_send] at w₁
  rw [rest_recv] at w₂
  unfold fly fin
  iintro #HC Ho ⟨Hs, Hr, Hcs, Hcr⟩ Hk
  iapply (w₁ hss hb) $$ HC Ho Hs Hcs
  iintro ⟨Ho, Hvs, Hps⟩
  iapply (w₂ hrs hb') $$ HC Ho Hr Hcr
  iintro ⟨Ho, Hvr, Hpr⟩
  iapply Hk
  isplitl [Ho]; · iexact Ho
  isplitl [Hvs Hvr]
  · isplitl [Hvs]; · iexact Hvs
    iexact Hvr
  isplitl [Hps]; · iexact Hps
  iexact Hpr

/-- At a level going out the slot and the rows sent are waited for: the rows sent are free again, and the neighbour's values
    of the rows kept are in the slot. -/
theorem wait_up (c : Dev nD) (s : Fin 3) (p st : Fin 6) (hst : st = up s) (l : List (Fin 6 × Fin 6)) (h : ∀ e ∈ l, st.val < e.1.val) {n : ℕ} (hn : n = rows p s)
    {ss rs : DmaSem sig} (hss : ss = (⟨2 + (sIdx st p).val, by omega⟩ : Fin 74)) (hrs : rs = (⟨2 + (rIdx st p).val, by omega⟩ : Fin 74))
    {off offb : Fin 2 → ℕ} {hw hwr hb hbr} {h₁ h₂ h₃ h₄} {α : Type} {Q : α → sProp 𝕄} {k : PUnit → Prog (TpuEff nD τ sig (Elt F) Λ₀ .tc) α} :
    ctx m ρ K
      ⊢ iprop(OW c l -∗ fly c st p
          -∗ ((OW c l ∗ fin c st p ∗ wPts c (reg (peer (ord p s) c) p s) (accC m ρ p s.val c) ∗ bPts c (slotReg p s) (landC m ρ p s c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ss ((bM : Memref sig .tc .vmem S1792x1024 .bf16).slice (Rect.unit (s := S1792x1024) offb ![n, 512] hb) hbr)
                  ((wM : Memref sig .tc .vmem S1024x1024 .bf16).slice (Rect.unit (s := S1024x1024) off ![n, 512] hw) hwr) h₁ h₂) fun _ =>
                .op (.waitDma2 rs ((wM : Memref sig .tc .vmem S1024x1024 .bf16).slice (Rect.unit (s := S1024x1024) off ![n, 512] hw) hwr)
                  ((bM : Memref sig .tc .vmem S1792x1024 .bf16).slice (Rect.unit (s := S1792x1024) offb ![n, 512] hb) hbr) h₃ h₄) k) Q) := by
  subst hst
  have w := @wait_pair F _ m ρ K c (up s) p l h n
  rw [send_up_eq, recv_up_eq] at w
  subst hn
  exact w hss hrs (amt_up s p).symm (amt_up s p).symm

/-- At a level coming back the neighbour's rows of the result have joined one's own. -/
theorem wait_dn (c : Dev nD) (s : Fin 3) (p st : Fin 6) (hst : st = dn s) (l : List (Fin 6 × Fin 6)) (h : ∀ e ∈ l, st.val < e.1.val) {n : ℕ} (hn : n = rows p s)
    {ss rs : DmaSem sig} (hss : ss = (⟨2 + (sIdx st p).val, by omega⟩ : Fin 74)) (hrs : rs = (⟨2 + (rIdx st p).val, by omega⟩ : Fin 74))
    {off off' : Fin 2 → ℕ} {hw hwr hw' hwr'} {h₁ h₂ h₃ h₄} {α : Type} {Q : α → sProp 𝕄} {k : PUnit → Prog (TpuEff nD τ sig (Elt F) Λ₀ .tc) α} :
    ctx m ρ K
      ⊢ iprop(OW c l -∗ fly c st p
          -∗ ((OW c l ∗ fin c st p ∗ oPts c (reg c p s) (outC m ρ) ∗ oPts c (reg (peer (ord p s) c) p s) (outC m ρ))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ss ((oM : Memref sig .tc .vmem S1024x1024 .bf16).slice (Rect.unit (s := S1024x1024) off ![n, 512] hw) hwr)
                  ((oM : Memref sig .tc .vmem S1024x1024 .bf16).slice (Rect.unit (s := S1024x1024) off ![n, 512] hw) hwr) h₁ h₂) fun _ =>
                .op (.waitDma2 rs ((oM : Memref sig .tc .vmem S1024x1024 .bf16).slice (Rect.unit (s := S1024x1024) off' ![n, 512] hw') hwr')
                  ((oM : Memref sig .tc .vmem S1024x1024 .bf16).slice (Rect.unit (s := S1024x1024) off' ![n, 512] hw') hwr') h₃ h₄) k) Q) := by
  subst hst
  have w := @wait_pair F _ m ρ K c (dn s) p l h n
  rw [send_dn_eq, recv_dn_eq] at w
  subst hn
  exact w hss hrs (amt_dn s p).symm (amt_dn s p).symm

end Cert.KernelIdeal.Cube
-- ==== Proof.KernelIdeal.Parts.lean ====
/-
# The groups of operations on one part

What a device holds of one part of the array between two groups of the kernel's operations, and each group run once: start,
keep, add, add the last time, pass back, finish.
-/
module

public import proofs.«01_k».proof.Proof.KernelIdeal.Exchange

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## What is held of a part -/

/-- What remains of an exchange: its semaphores at zero and, of a level going out, the rows sent and the slot. -/
def left (c : Dev nD) (st p : Fin 6) : sProp 𝕄 :=
  iprop(fin c st p ∗ if st.val < 3 then iprop((∃ f, wPts c (reg (nb st p c) p (lvl st)) f) ∗ ∃ f, bPts c (slotReg p (lvl st)) f) else emp)

/-- What a stage out leaves: its semaphores, the neighbour's region of the work buffer and the landing slot, -/
theorem left_up (c : Dev nD) (s : Fin 3) (p : Fin 6) :
    left (F := F) c (up s) p = iprop(fin c (up s) p ∗ (∃ f, wPts c (reg (peer (ord p s) c) p s) f) ∗ ∃ f, bPts c (slotReg p s) f) := by
  unfold left; rw [if_pos (up_lt s), nb_up, lvl_up]
/-- and what a stage back leaves: its semaphores. -/
theorem left_dn (c : Dev nD) (s : Fin 3) (p : Fin 6) : left (F := F) c (dn s) p = iprop(fin c (dn s) p ∗ emp) := by
  unfold left; rw [if_neg (dn_ge s)]

/-- While exchange `k` of part `p` is under way: the earlier ones are over, the later ones to come, and `X` is held. -/
def During (c : Dev nD) (p k : Fin 6) (X : sProp 𝕄) : sProp 𝕄 :=
  iprop(bigSep (Finset.Iio k) (left c · p) ∗ fly c k p ∗ bigSep (Finset.Ioi k) (pre c · p) ∗ X)

/-- The rows a device ends up adding, in its result. -/
def Eighth (c : Dev nD) (p : Fin 6) : sProp 𝕄 := iprop(∃ f, oPts c (reg c p 2) f)

/-- The rows of the work buffer a device keeps at the last level, at any contents. -/
def Rest (c : Dev nD) (p : Fin 6) : sProp 𝕄 := iprop(∃ f, wPts c (reg c p 2) f)

/-- What a device holds while it has yet to put in the half it keeps, -/
def Bare (c : Dev nD) (p : Fin 6) : sProp 𝕄 := iprop((∃ f, wPts c (reg c p 0) f) ∗ Eighth c p)
/-- and once it holds, at level `s`, the sums so far. -/
def Held (c : Dev nD) (p : Fin 6) (s : Fin 3) : sProp 𝕄 := iprop(wPts c (reg c p s) (accC m ρ p s.val c) ∗ Eighth c p)

/-- What a device holds of a part before it starts, -/
def Begin (c : Dev nD) (p : Fin 6) : sProp 𝕄 :=
  iprop(bigSep Finset.univ (pre c · p) ∗ (∃ f, wPts c (reg (peer (ord p 0) c) p 0) f) ∗ Bare c p)
/-- and at the end: the whole part of the result. -/
def End (c : Dev nD) (p : Fin 6) : sProp 𝕄 :=
  iprop(bigSep Finset.univ (left c · p) ∗ Rest c p ∗ oPts c (part p) (outC m ρ))

/-- A family over a set with one more element. -/
theorem peel {I : Type} [DecidableEq I] {s : Finset I} {i : I} (hi : i ∉ s) {Φ : I → sProp 𝕄} :
    bigSep (insert i s) Φ = iprop(Φ i ∗ bigSep s Φ) := bigSep_insert hi

/-- From one exchange to the next. -/
theorem during_next (c : Dev nD) (p k k' : Fin 6) (h : k'.val = k.val + 1) (X : sProp 𝕄) :
    iprop(bigSep (Finset.Iio k) (left (F := F) c · p) ∗ left c k p ∗ fly c k' p ∗ bigSep (Finset.Ioi k') (pre c · p) ∗ X) ⊢ During c p k' X := by
  have e : Finset.Iio k' = insert k (Finset.Iio k) := by revert k k'; decide
  unfold During
  rw [e, peel (by simp)]
  iintro ⟨Hd, Hl, Hf, Hp, HX⟩
  isplitl [Hd Hl]
  · isplitl [Hl]; · iexact Hl
    iexact Hd
  isplitl [Hf]; · iexact Hf
  isplitl [Hp]; · iexact Hp
  iexact HX

/-- What the later stages need is what the next stage needs and what the ones after it need. -/
theorem pre_next (c : Dev nD) (p k k' : Fin 6) (h : k'.val = k.val + 1) :
    bigSep (Finset.Ioi k) (pre (F := F) c · p) = iprop(pre c k' p ∗ bigSep (Finset.Ioi k') (pre c · p)) := by
  have e : Finset.Ioi k = insert k' (Finset.Ioi k') := by revert k k'; decide
  rw [e, peel (by simp)]

/-- What all stages need is what the first needs and what the later ones need. -/
theorem pre_first (c : Dev nD) (p : Fin 6) :
    bigSep Finset.univ (pre (F := F) c · p) = iprop(pre c 0 p ∗ bigSep (Finset.Ioi 0) (pre c · p)) := by
  have e : (Finset.univ : Finset (Fin 6)) = insert 0 (Finset.Ioi 0) := by decide
  rw [e, peel (by simp)]

/-- What the stages before the last leave, with what the last leaves, is what all of them leave. -/
theorem left_last (c : Dev nD) (p : Fin 6) :
    bigSep Finset.univ (left (F := F) c · p) = iprop(left c 5 p ∗ bigSep (Finset.Iio 5) (left c · p)) := by
  have e : (Finset.univ : Finset (Fin 6)) = insert 5 (Finset.Iio 5) := by decide
  rw [e, peel (by simp)]

/-- The rows kept at a level are those kept and those sent at the next. -/
theorem w_split (c : Dev nD) (p : Fin 6) (s : Fin 2) (f : (Sh 1024).Idx → Elt F .bf16) :
    wPts c (reg c p s.castSucc) f = (iprop(wPts c (reg c p s.succ) f ∗ wPts c (reg (peer (ord p s.succ) c) p s.succ) f) : sProp 𝕄) := by
  unfold wPts; rw [reg_split c p s]
  exact Entails.antisymm (pointsTo_union (reg_disjoint c p s)).1 (pointsTo_union (reg_disjoint c p s)).2

/-- A region of the result is what the device and its next neighbour keep of it; -/
theorem o_split (c : Dev nD) (p : Fin 6) (s : Fin 2) (f : (Sh 1024).Idx → Elt F .bf16) :
    oPts c (reg c p s.castSucc) f = (iprop(oPts c (reg c p s.succ) f ∗ oPts c (reg (peer (ord p s.succ) c) p s.succ) f) : sProp 𝕄) := by
  unfold oPts; rw [reg_split c p s]
  exact Entails.antisymm (pointsTo_union (reg_disjoint c p s)).1 (pointsTo_union (reg_disjoint c p s)).2

/-- a part of the result is what the device and its first neighbour keep of it; -/
theorem o_split₀ (c : Dev nD) (p : Fin 6) (f : (Sh 1024).Idx → Elt F .bf16) :
    oPts c (part p) f = (iprop(oPts c (reg c p 0) f ∗ oPts c (reg (peer (ord p 0) c) p 0) f) : sProp 𝕄) := by
  unfold oPts; rw [part_split c p]
  exact Entails.antisymm (pointsTo_union (part_disjoint c p)).1 (pointsTo_union (part_disjoint c p)).2

/-- and so is a part of the work buffer. -/
theorem w_split₀ (c : Dev nD) (p : Fin 6) (f : (Sh 1024).Idx → Elt F .bf16) :
    wPts c (part p) f = (iprop(wPts c (reg c p 0) f ∗ wPts c (reg (peer (ord p 0) c) p 0) f) : sProp 𝕄) := by
  unfold wPts; rw [part_split c p]
  exact Entails.antisymm (pointsTo_union (part_disjoint c p)).1 (pointsTo_union (part_disjoint c p)).2

/-! ## The groups -/

/-- The half to send is put in the work buffer and sent. -/
theorem start (c : Dev nD) (p : Fin 6) (l : List (Fin 6 × Fin 6)) {n : ℕ} (hn : n = rows p 0)
    (offx : Fin 3 → ℕ) (hox : offx = ![0, seg (peer (ord p 0) c) p 0, col p])
    (offw : Fin 2 → ℕ) (how : offw = ![seg (peer (ord p 0) c) p 0, col p])
    (offs : Fin 2 → ℕ) (hos : offs = ![seg (peer (ord p 0) c) p 0, col p])
    (offb : Fin 2 → ℕ) (hoffb : offb = ![slot p 0, col p])
    (dev : ℕ) (hdev : dev = (peer (ord p 0) c).val) {hlt : dev < nD}
    (pay : Vec F (⟨3, ![1, n, 512]⟩ : Shape) .bf16 → FVec F (⟨2, ![n, 512]⟩ : Shape) .bf16)
    (hpay : ∀ x j, pay x j = x (ix3 (0 : Fin 1) (j 0 : Fin n) (j 1 : Fin 512)))
    {ss rs : DmaSem sig} (hss : ss = (⟨2 + (sIdx 0 p).val, by omega⟩ : Fin 74)) (hrs : rs = (⟨2 + (rIdx 0 p).val, by omega⟩ : Fin 74))
    {hx hlx hw hlw hst hm hs hsr hb hbr hsc hsrc hdst hsem} {α : Type} {Q : α → sProp 𝕄} {k : PUnit → Prog (TpuEff nD τ sig (Elt F) Λ₀ .tc) α} :
    ctx m ρ K
      ⊢ iprop(xPts m ρ c -∗ OW c ((0, p) :: l) -∗ Begin c p
          -∗ ((xPts m ρ c ∗ OW c l ∗ During c p 0 (Bare c p)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (Rect.unit (s := S1x1024x1024) offx ![1, n, 512] hx).toLoadRect hlx) fun x =>
              .op (.load wM (Rect.unit (s := S1024x1024) offw ![n, 512] hw).toLoadRect hlw) fun _ =>
              .op (.store wM (Rect.unit (s := S1024x1024) offw ![n, 512] hw) (pay x) Finset.univ hst hm) fun _ =>
              .op (.enqueueDma ((wM : Memref sig .tc .vmem S1024x1024 .bf16).slice (Rect.unit (s := S1024x1024) offs ![n, 512] hs) hsr)
                (.remote (Dev.tc ⟨dev, hlt⟩ : Thread nD τ)
                  ((bM : Memref sig .tc .vmem S1792x1024 .bf16).slice (Rect.unit (s := S1792x1024) offb ![n, 512] hb) hbr) (.dma ss) hsc)
                (.dma rs) hsrc hdst hsem) k) Q) := by
  subst hn
  unfold Begin During
  rw [pre_first]
  iintro #HC Hx Ho ⟨⟨Hp, Hps⟩, Hw, HB⟩ Hk
  iapply (put m ρ c p offx hox offw how pay hpay) $$ [Hx Hw]
  · isplitl [Hx]; · iexact Hx
    iexact Hw
  iintro ⟨Hx, Hw⟩
  ihave Hw := (show wPts c (reg (peer (ord p 0) c) p 0) (accC m ρ p 0 c) ⊢ wPts c (reg (peer (ord p 0) c) p 0) (accC m ρ p (0 : Fin 3).val c) from
    Entails.refl _) $$ Hw
  iapply (send_up m ρ K c 0 p 0 rfl l rfl offs hos offb hoffb dev hdev hss hrs) $$ HC Ho Hp Hw
  iintro ⟨Ho, Hf⟩
  iapply Hk
  isplitl [Hx]; · iexact Hx
  isplitl [Ho]; · iexact Ho
  isplitr
  · rw [show Finset.Iio (0 : Fin 6) = ∅ from by decide, bigSep_empty]; iempintro
  isplitl [Hf]; · iexact Hf
  isplitl [Hps]; · iexact Hps
  iexact HB

/-- The half to keep is put in the work buffer. -/
theorem keep (c : Dev nD) (p : Fin 6) {n : ℕ} (hn : n = rows p 0)
    (offx : Fin 3 → ℕ) (hox : offx = ![0, seg c p 0, col p]) (offw : Fin 2 → ℕ) (how : offw = ![seg c p 0, col p])
    (pay : Vec F (⟨3, ![1, n, 512]⟩ : Shape) .bf16 → FVec F (⟨2, ![n, 512]⟩ : Shape) .bf16)
    (hpay : ∀ x j, pay x j = x (ix3 (0 : Fin 1) (j 0 : Fin n) (j 1 : Fin 512)))
    {hx hlx hw hlw hst hm} {α : Type} {Q : α → sProp 𝕄} {k : PUnit → Prog (TpuEff nD τ sig (Elt F) Λ₀ .tc) α} :
    xPts m ρ c
      ⊢ iprop(During c p 0 (Bare c p)
          -∗ ((xPts m ρ c ∗ During c p 0 (Held m ρ c p 0)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (Rect.unit (s := S1x1024x1024) offx ![1, n, 512] hx).toLoadRect hlx) fun x =>
              .op (.load wM (Rect.unit (s := S1024x1024) offw ![n, 512] hw).toLoadRect hlw) fun _ =>
              .op (.store wM (Rect.unit (s := S1024x1024) offw ![n, 512] hw) (pay x) Finset.univ hst hm) k) Q) := by
  subst hn
  unfold During Bare Held
  iintro Hx ⟨Hd, Hf, Hp, Hw, HE⟩ Hk
  iapply (put m ρ c p offx hox offw how pay hpay) $$ [Hx Hw]
  · isplitl [Hx]; · iexact Hx
    iexact Hw
  iintro ⟨Hx, Hw⟩
  ihave Hw := (show wPts c (reg c p 0) (accC m ρ p 0 c) ⊢ wPts c (reg c p 0) (accC m ρ p (0 : Fin 3).val c) from Entails.refl _) $$ Hw
  iapply Hk
  isplitl [Hx]; · iexact Hx
  isplitl [Hd]; · iexact Hd
  isplitl [Hf]; · iexact Hf
  isplitl [Hp]; · iexact Hp
  isplitl [Hw]; · iexact Hw
  iexact HE

/-- Adding to what is kept what landed in the slot gives the sums of the next level. -/
theorem added (c : Dev nD) (s : Fin 3) (p : Fin 6) {n : ℕ} (off : Fin 2 → ℕ) (hoff : off = ![seg c p s, col p])
    (offb : Fin 2 → ℕ) (hoffb : offb = ![slot p s, col p]) (hw hb) (j : (⟨2, ![n, 512]⟩ : Shape).Idx) :
    plus (accC m ρ p s.val c ((Rect.unit (s := Sh 1024) off ![n, 512] hw).emb j))
        (landC m ρ p s c ((Rect.unit (s := Sh 1792) offb ![n, 512] hb).emb j))
      = accC m ρ p (s.val + 1) c ((Rect.unit (s := Sh 1024) off ![n, 512] hw).emb j) := by
  obtain ⟨e0, e1⟩ := unit_emb (R := 1024) (n := n) off hoff hw j
  obtain ⟨b0, b1⟩ := unit_emb (R := 1792) (n := n) offb hoffb hb j
  unfold landC accC
  rw [land_apply plus (xin m ρ) p s c ((Rect.unit (s := Sh 1792) offb ![n, 512] hb).emb j)
    ((Rect.unit (s := Sh 1024) off ![n, 512] hw).emb j) (by rw [e0, b0]; omega) (by rw [e1, b1])]
  show _ = plus _ (acc plus (xin m ρ) p s.val (peer (ord p (Fin.ofNat 3 s.val)) c) _)
  rw [show Fin.ofNat 3 s.val = s from (by decide : ∀ s : Fin 3, Fin.ofNat 3 s.val = s) s]

/-- An exchange going out is waited for, what landed is added to what is kept, and half of that is sent on. -/
theorem add (c : Dev nD) (p : Fin 6) (st st' : Fin 6) (s s' : Fin 3) (hst : st = up s) (hst' : st' = up s') (hs' : s'.val = s.val + 1) (l : List (Fin 6 × Fin 6)) (h : ∀ e ∈ (st', p) :: l, st.val < e.1.val)
    {n n' : ℕ} (hn : n = rows p s) (hn' : n' = rows p s')
    (offw : Fin 2 → ℕ) (how : offw = ![seg c p s, col p])
    (offb : Fin 2 → ℕ) (hob : offb = ![slot p s, col p])
    (offs : Fin 2 → ℕ) (hos : offs = ![seg (peer (ord p s') c) p s', col p])
    (offd : Fin 2 → ℕ) (hod : offd = ![slot p s', col p])
    (dev : ℕ) (hdev : dev = (peer (ord p s') c).val) {hlt : dev < nD}
    (pay : Vec F (⟨2, ![n, 512]⟩ : Shape) .bf16 → Vec F (⟨2, ![n, 512]⟩ : Shape) .bf16 → FVec F (⟨2, ![n, 512]⟩ : Shape) .bf16)
    (hpay : ∀ x y j, pay x y j = plus (x j) (y j))
    {ss rs ss' rs' : DmaSem sig} (hss : ss = (⟨2 + (sIdx st p).val, by omega⟩ : Fin 74)) (hrs : rs = (⟨2 + (rIdx st p).val, by omega⟩ : Fin 74))
    (hss' : ss' = (⟨2 + (sIdx st' p).val, by omega⟩ : Fin 74)) (hrs' : rs' = (⟨2 + (rIdx st' p).val, by omega⟩ : Fin 74))
    {offv : Fin 2 → ℕ} {hv hvr hb hbr h₁ h₂ h₃ h₄ hw hlw hlb hst hm hs hsr hd hdr hsc hsrc hdst hsem}
    {α : Type} {Q : α → sProp 𝕄} {k : PUnit → Prog (TpuEff nD τ sig (Elt F) Λ₀ .tc) α} :
    ctx m ρ K
      ⊢ iprop(OW c ((st', p) :: l) -∗ During c p st (Held m ρ c p s)
          -∗ ((OW c l ∗ During c p st' (Held m ρ c p s')) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ss ((bM : Memref sig .tc .vmem S1792x1024 .bf16).slice (Rect.unit (s := S1792x1024) offb ![n, 512] hb) hbr)
                  ((wM : Memref sig .tc .vmem S1024x1024 .bf16).slice (Rect.unit (s := S1024x1024) offv ![n, 512] hv) hvr) h₁ h₂) fun _ =>
              .op (.waitDma2 rs ((wM : Memref sig .tc .vmem S1024x1024 .bf16).slice (Rect.unit (s := S1024x1024) offv ![n, 512] hv) hvr)
                  ((bM : Memref sig .tc .vmem S1792x1024 .bf16).slice (Rect.unit (s := S1792x1024) offb ![n, 512] hb) hbr) h₃ h₄) fun _ =>
              .op (.load wM (Rect.unit (s := S1024x1024) offw ![n, 512] hw).toLoadRect hlw) fun x =>
              .op (.load bM (Rect.unit (s := S1792x1024) offb ![n, 512] hb).toLoadRect hlb) fun y =>
              .op (.load wM (Rect.unit (s := S1024x1024) offw ![n, 512] hw).toLoadRect hlw) fun _ =>
              .op (.store wM (Rect.unit (s := S1024x1024) offw ![n, 512] hw) (pay x y) Finset.univ hst hm) fun _ =>
              .op (.enqueueDma ((wM : Memref sig .tc .vmem S1024x1024 .bf16).slice (Rect.unit (s := S1024x1024) offs ![n', 512] hs) hsr)
                (.remote (Dev.tc ⟨dev, hlt⟩ : Thread nD τ)
                  ((bM : Memref sig .tc .vmem S1792x1024 .bf16).slice (Rect.unit (s := S1792x1024) offd ![n', 512] hd) hdr) (.dma ss') hsc)
                (.dma rs') hsrc hdst hsem) k) Q) := by
  obtain ⟨s, rfl, rfl⟩ : ∃ t : Fin 2, s = t.castSucc ∧ s' = t.succ :=
    (by decide : ∀ s s' : Fin 3, s'.val = s.val + 1 → ∃ t : Fin 2, s = t.castSucc ∧ s' = t.succ) s s' hs'
  subst hst hst' hn hn'
  have hk := (by decide : ∀ s : Fin 2, (up s.succ).val = (up s.castSucc).val + 1) s
  have ha := (by decide : ∀ s : Fin 2, s.castSucc.val + 1 = s.succ.val) s
  unfold Held
  rw [show During c p (up s.castSucc) = fun X => iprop(bigSep (Finset.Iio (up s.castSucc)) (left c · p) ∗ fly c (up s.castSucc) p
    ∗ (pre c (up s.succ) p ∗ bigSep (Finset.Ioi (up s.succ)) (pre c · p)) ∗ X) from funext fun X => by rw [← pre_next c p _ _ hk]; rfl]
  iintro #HC Ho ⟨Hd, Hf, ⟨Hp, Hps⟩, Hw, HE⟩ Hk
  iapply (wait_up m ρ K c s.castSucc p _ rfl _ h rfl hss hrs) $$ HC Ho Hf
  iintro ⟨Ho, Hfin, Hsent, Hb⟩
  iapply (load_w c offw how) $$ Hw
  iintro Hw
  iapply (load_b c offb hob) $$ Hb
  iintro Hb
  iapply (load_w c offw how) $$ Hw
  iintro Hw
  iapply (store_w c offw how (g := accC m ρ p s.succ.val c) (fun j => by
    rw [hpay, ← ha]; exact added m ρ c s.castSucc p offw how offb hob hw hb j)) $$ Hw
  iintro Hw
  ihave Hw := (show wPts c (box 1024 (seg c p s.castSucc) (rows p s.castSucc) (col p)) (accC m ρ p s.succ.val c) ⊢ _ from
    Entails.of_eq (w_split c p s _)) $$ Hw
  icases Hw with ⟨Hw, Hw'⟩
  iapply (send_up m ρ K c s.succ p _ rfl l rfl offs hos offd hod dev hdev hss' hrs') $$ HC Ho Hp Hw'
  iintro ⟨Ho, Hf⟩
  iapply Hk
  isplitl [Ho]; · iexact Ho
  iapply (during_next c p _ _ hk _)
  isplitl [Hd]; · iexact Hd
  isplitl [Hfin Hsent Hb]
  · iapply (Entails.of_eq (left_up c s.castSucc p).symm)
    isplitl [Hfin]; · iexact Hfin
    isplitl [Hsent]; · iexists _; iexact Hsent
    iexists _; iexact Hb
  isplitl [Hf]; · iexact Hf
  isplitl [Hps]; · iexact Hps
  isplitl [Hw]; · iexact Hw
  iexact HE

/-- The last exchange going out is waited for; the sums are complete, go to the result, and start on their way back. -/
theorem total (c : Dev nD) (p : Fin 6) (l : List (Fin 6 × Fin 6)) (h : ∀ e ∈ (3, p) :: l, (2 : Fin 6).val < e.1.val)
    {n : ℕ} (hn : n = rows p 2)
    (offw : Fin 2 → ℕ) (how : offw = ![seg c p 2, col p]) (offo : Fin 2 → ℕ) (hoo : offo = ![seg c p 2, col p])
    (offb : Fin 2 → ℕ) (hob : offb = ![slot p 2, col p]) (offs : Fin 2 → ℕ) (hos : offs = ![seg c p 2, col p])
    (dev : ℕ) (hdev : dev = (peer (ord p 2) c).val) {hlt : dev < nD}
    (pay : Vec F (⟨2, ![n, 512]⟩ : Shape) .bf16 → Vec F (⟨2, ![n, 512]⟩ : Shape) .bf16 → FVec F (⟨2, ![n, 512]⟩ : Shape) .bf16)
    (hpay : ∀ x y j, pay x y j = plus (x j) (y j))
    {ss rs ss' rs' : DmaSem sig} (hss : ss = (⟨2 + (sIdx 2 p).val, by omega⟩ : Fin 74)) (hrs : rs = (⟨2 + (rIdx 2 p).val, by omega⟩ : Fin 74))
    (hss' : ss' = (⟨2 + (sIdx 3 p).val, by omega⟩ : Fin 74)) (hrs' : rs' = (⟨2 + (rIdx 3 p).val, by omega⟩ : Fin 74))
    {offv : Fin 2 → ℕ} {hv hvr hb hbr h₁ h₂ h₃ h₄ hw hlw hlb ho hlo hst hm hs hsr hs' hsr' hsc hsrc hdst hsem}
    {α : Type} {Q : α → sProp 𝕄} {k : PUnit → Prog (TpuEff nD τ sig (Elt F) Λ₀ .tc) α} :
    ctx m ρ K
      ⊢ iprop(OW c ((3, p) :: l) -∗ During c p 2 (Held m ρ c p 2)
          -∗ ((OW c l ∗ During c p 3 (Rest c p)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ss ((bM : Memref sig .tc .vmem S1792x1024 .bf16).slice (Rect.unit (s := S1792x1024) offb ![n, 512] hb) hbr)
                  ((wM : Memref sig .tc .vmem S1024x1024 .bf16).slice (Rect.unit (s := S1024x1024) offv ![n, 512] hv) hvr) h₁ h₂) fun _ =>
              .op (.waitDma2 rs ((wM : Memref sig .tc .vmem S1024x1024 .bf16).slice (Rect.unit (s := S1024x1024) offv ![n, 512] hv) hvr)
                  ((bM : Memref sig .tc .vmem S1792x1024 .bf16).slice (Rect.unit (s := S1792x1024) offb ![n, 512] hb) hbr) h₃ h₄) fun _ =>
              .op (.load wM (Rect.unit (s := S1024x1024) offw ![n, 512] hw).toLoadRect hlw) fun x =>
              .op (.load bM (Rect.unit (s := S1792x1024) offb ![n, 512] hb).toLoadRect hlb) fun y =>
              .op (.load oM (Rect.unit (s := S1024x1024) offo ![n, 512] ho).toLoadRect hlo) fun _ =>
              .op (.store oM (Rect.unit (s := S1024x1024) offo ![n, 512] ho) (pay x y) Finset.univ hst hm) fun _ =>
              .op (.enqueueDma ((oM : Memref sig .tc .vmem S1024x1024 .bf16).slice (Rect.unit (s := S1024x1024) offs ![n, 512] hs) hsr)
                (.remote (Dev.tc ⟨dev, hlt⟩ : Thread nD τ)
                  ((oM : Memref sig .tc .vmem S1024x1024 .bf16).slice (Rect.unit (s := S1024x1024) offs ![n, 512] hs') hsr') (.dma ss') hsc)
                (.dma rs') hsrc hdst hsem) k) Q) := by
  subst hn
  unfold Held Eighth Rest
  rw [show During c p 2 = fun X => iprop(bigSep (Finset.Iio 2) (left c · p) ∗ fly c 2 p
    ∗ (pre c 3 p ∗ bigSep (Finset.Ioi 3) (pre c · p)) ∗ X) from funext fun X => by rw [← pre_next c p 2 3 rfl]; rfl]
  iintro #HC Ho ⟨Hd, Hf, ⟨Hp, Hps⟩, Hw, ⟨%f, Hr⟩⟩ Hk
  iapply (wait_up m ρ K c 2 p 2 rfl _ h rfl hss hrs) $$ HC Ho Hf
  iintro ⟨Ho, Hfin, Hsent, Hb⟩
  iapply (load_w c offw how) $$ Hw
  iintro Hw
  iapply (load_b c offb hob) $$ Hb
  iintro Hb
  iapply (load_o c offo hoo) $$ Hr
  iintro Hr
  iapply (store_o c offo hoo (g := outC m ρ) (fun j => by
    rw [hpay]
    refine (added m ρ c 2 p offw how offb hob hw hb j).trans ?_
    obtain ⟨e0, e1⟩ := unit_emb (R := 1024) (n := rows p 2) offw how hw j
    have j0 : (j 0).val < rows p 2 := (j 0).isLt
    have j1 : (j 1).val < 512 := (j 1).isLt
    subst how hoo
    exact (total_eq plus (xin m ρ) p c _ (mem_box.mpr (by rw [e0, e1]; omega))).symm)) $$ Hr
  iintro Hr
  iapply (send_dn m ρ K c 2 p 3 rfl l rfl offs hos dev hdev hss' hrs') $$ HC Ho Hp Hr
  iintro ⟨Ho, Hf⟩
  iapply Hk
  isplitl [Ho]; · iexact Ho
  iapply (during_next c p 2 3 rfl _)
  isplitl [Hd]; · iexact Hd
  isplitl [Hfin Hsent Hb]
  · iapply (Entails.of_eq (left_up c 2 p).symm)
    isplitl [Hfin]; · iexact Hfin
    isplitl [Hsent]; · iexists _; iexact Hsent
    iexists _; iexact Hb
  isplitl [Hf]; · iexact Hf
  isplitl [Hps]; · iexact Hps
  iexists _; iexact Hw

/-- An exchange coming back is waited for, and all that is complete so far is sent on. -/
theorem back (c : Dev nD) (p : Fin 6) (st st' : Fin 6) (s s' : Fin 3) (hst : st = dn s) (hst' : st' = dn s') (hs' : s.val = s'.val + 1)
    (l : List (Fin 6 × Fin 6)) (h : ∀ e ∈ (st', p) :: l, st.val < e.1.val)
    {n n' : ℕ} (hn : n = rows p s) (hn' : n' = rows p s')
    (offs : Fin 2 → ℕ) (hos : offs = ![seg c p s', col p])
    (dev : ℕ) (hdev : dev = (peer (ord p s') c).val) {hlt : dev < nD}
    {ss rs ss' rs' : DmaSem sig} (hss : ss = (⟨2 + (sIdx st p).val, by omega⟩ : Fin 74)) (hrs : rs = (⟨2 + (rIdx st p).val, by omega⟩ : Fin 74))
    (hss' : ss' = (⟨2 + (sIdx st' p).val, by omega⟩ : Fin 74)) (hrs' : rs' = (⟨2 + (rIdx st' p).val, by omega⟩ : Fin 74))
    {offv offv' : Fin 2 → ℕ} {hv hvr hv' hvr' h₁ h₂ h₃ h₄ hs hsr ht htr hsc hsrc hdst hsem}
    {α : Type} {Q : α → sProp 𝕄} {k : PUnit → Prog (TpuEff nD τ sig (Elt F) Λ₀ .tc) α} :
    ctx m ρ K
      ⊢ iprop(OW c ((st', p) :: l) -∗ During c p st (Rest c p)
          -∗ ((OW c l ∗ During c p st' (Rest c p)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ss ((oM : Memref sig .tc .vmem S1024x1024 .bf16).slice (Rect.unit (s := S1024x1024) offv ![n, 512] hv) hvr)
                  ((oM : Memref sig .tc .vmem S1024x1024 .bf16).slice (Rect.unit (s := S1024x1024) offv ![n, 512] hv) hvr) h₁ h₂) fun _ =>
              .op (.waitDma2 rs ((oM : Memref sig .tc .vmem S1024x1024 .bf16).slice (Rect.unit (s := S1024x1024) offv' ![n, 512] hv') hvr')
                  ((oM : Memref sig .tc .vmem S1024x1024 .bf16).slice (Rect.unit (s := S1024x1024) offv' ![n, 512] hv') hvr') h₃ h₄) fun _ =>
              .op (.enqueueDma ((oM : Memref sig .tc .vmem S1024x1024 .bf16).slice (Rect.unit (s := S1024x1024) offs ![n', 512] hs) hsr)
                (.remote (Dev.tc ⟨dev, hlt⟩ : Thread nD τ)
                  ((oM : Memref sig .tc .vmem S1024x1024 .bf16).slice (Rect.unit (s := S1024x1024) offs ![n', 512] ht) htr) (.dma ss') hsc)
                (.dma rs') hsrc hdst hsem) k) Q) := by
  obtain ⟨s, rfl, rfl⟩ : ∃ t : Fin 2, s' = t.castSucc ∧ s = t.succ :=
    (by decide : ∀ s' s : Fin 3, s.val = s'.val + 1 → ∃ t : Fin 2, s' = t.castSucc ∧ s = t.succ) s' s hs'
  subst hst hst' hn hn'
  have hk := (by decide : ∀ s : Fin 2, (dn s.castSucc).val = (dn s.succ).val + 1) s
  rw [show During c p (dn s.succ) = fun X => iprop(bigSep (Finset.Iio (dn s.succ)) (left c · p) ∗ fly c (dn s.succ) p
    ∗ (pre c (dn s.castSucc) p ∗ bigSep (Finset.Ioi (dn s.castSucc)) (pre c · p)) ∗ X) from funext fun X => by rw [← pre_next c p _ _ hk]; rfl]
  iintro #HC Ho ⟨Hd, Hf, ⟨Hp, Hps⟩, HR⟩ Hk
  iapply (wait_dn m ρ K c s.succ p _ rfl _ h rfl hss hrs) $$ HC Ho Hf
  iintro ⟨Ho, Hfin, Hr, Hr'⟩
  ihave Hr := (Entails.of_eq (o_split c p s (outC m ρ)).symm) $$ [Hr Hr']
  · isplitl [Hr]; · iexact Hr
    iexact Hr'
  iapply (send_dn m ρ K c s.castSucc p _ rfl l rfl offs hos dev hdev hss' hrs') $$ HC Ho Hp Hr
  iintro ⟨Ho, Hf⟩
  iapply Hk
  isplitl [Ho]; · iexact Ho
  iapply (during_next c p _ _ hk _)
  isplitl [Hd]; · iexact Hd
  isplitl [Hfin]
  · iapply (Entails.of_eq (left_dn c s.succ p).symm)
    isplitl [Hfin]; · iexact Hfin
    iempintro
  isplitl [Hf]; · iexact Hf
  isplitl [Hps]; · iexact Hps
  iexact HR

/-- The last exchange coming back is waited for: the part is complete. -/
theorem finish (c : Dev nD) (p : Fin 6) (l : List (Fin 6 × Fin 6)) (h : ∀ e ∈ l, (5 : Fin 6).val < e.1.val) {n : ℕ} (hn : n = rows p 0)
    {ss rs : DmaSem sig} (hss : ss = (⟨2 + (sIdx 5 p).val, by omega⟩ : Fin 74)) (hrs : rs = (⟨2 + (rIdx 5 p).val, by omega⟩ : Fin 74))
    {offv offv' : Fin 2 → ℕ} {hv hvr hv' hvr' h₁ h₂ h₃ h₄}
    {α : Type} {Q : α → sProp 𝕄} {k : PUnit → Prog (TpuEff nD τ sig (Elt F) Λ₀ .tc) α} :
    ctx m ρ K
      ⊢ iprop(OW c l -∗ During c p 5 (Rest c p)
          -∗ ((OW c l ∗ End m ρ c p) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ss ((oM : Memref sig .tc .vmem S1024x1024 .bf16).slice (Rect.unit (s := S1024x1024) offv ![n, 512] hv) hvr)
                  ((oM : Memref sig .tc .vmem S1024x1024 .bf16).slice (Rect.unit (s := S1024x1024) offv ![n, 512] hv) hvr) h₁ h₂) fun _ =>
              .op (.waitDma2 rs ((oM : Memref sig .tc .vmem S1024x1024 .bf16).slice (Rect.unit (s := S1024x1024) offv' ![n, 512] hv') hvr')
                  ((oM : Memref sig .tc .vmem S1024x1024 .bf16).slice (Rect.unit (s := S1024x1024) offv' ![n, 512] hv') hvr') h₃ h₄) k) Q) := by
  subst hn
  unfold During End
  rw [left_last, o_split₀ c p]
  iintro #HC Ho ⟨Hd, Hf, Hp, HR⟩ Hk
  iapply (wait_dn m ρ K c 0 p 5 rfl _ h rfl hss hrs) $$ HC Ho Hf
  iintro ⟨Ho, Hfin, Hr, Hr'⟩
  iapply Hk
  isplitl [Ho]; · iexact Ho
  isplitl [Hd Hfin]
  · isplitl [Hfin]
    · iapply (Entails.of_eq (left_dn c 0 p).symm)
      isplitl [Hfin]; · iexact Hfin
      iempintro
    iexact Hd
  isplitl [HR]; · iexact HR
  isplitl [Hr]; · iexact Hr
  iexact Hr'

end Cert.KernelIdeal.Cube
-- ==== Proof.KernelIdeal.Deal.lean ====
/-
# What a device starts and ends with

The buffers of a device cut into what each part of the array, at each level, holds of them; what the devices hand one
another at the barrier; and the whole put together again at the end.
-/
module

public import proofs.«01_k».proof.Proof.KernelIdeal.Parts

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## Families over the levels and the stages -/

/-- Separating conjunction is commutative -/
instance sep_commutes : _root_.Std.Commutative (α := sProp 𝕄) BIBase.sep :=
  ⟨fun P Q => _root_.Std.Commutative.comm (op := fun P Q : sProp 𝕄 => BI.sep P Q) P Q⟩

/-- and associative. -/
instance sep_associates : _root_.Std.Associative (α := sProp 𝕄) BIBase.sep :=
  ⟨fun P Q R => _root_.Std.Associative.assoc (op := fun P Q : sProp 𝕄 => BI.sep P Q) P Q R⟩

/-- Nothing beside an assertion is the assertion. -/
theorem sep_nothing (P : sProp 𝕄) : iprop(P ∗ emp) = P := equiv_iff.mp BI.sep_emp

/-- A family over three members, one by one. -/
theorem three (Φ : Fin 3 → sProp 𝕄) : bigSep Finset.univ Φ = iprop(Φ 0 ∗ Φ 1 ∗ Φ 2) :=
  bigSep_univ_eq_bigSepL [0, 1, 2] (by decide) (by decide) Φ

/-- The six stages: one going out and one coming back at each level. -/
def stages : Fin 3 ⊕ Fin 3 ≃ Fin 6 where
  toFun := Sum.elim up dn
  invFun st := if st.val < 3 then .inl (lvl st) else .inr (lvl st)
  left_inv := by decide
  right_inv := by decide

/-- A family over the six stages, by level: the stage out and the stage back. -/
theorem by_level (Φ : Fin 6 → sProp 𝕄) : bigSep Finset.univ Φ = bigSep Finset.univ fun s : Fin 3 => iprop(Φ (up s) ∗ Φ (dn s)) := by
  rw [bigSep_univ_equiv stages Φ, bigSep_univ_sum, bigSep_sep']; rfl

/-- The dimensions, by the level at which a part trades along them. -/
def along (p : Fin 6) : Fin 3 ≃ Fin 3 := ⟨lev p, ord p, ord_lev p, lev_ord p⟩

/-- A family over the levels of every part, dimension by dimension. -/
theorem by_dim (Φ : Fin 6 → Fin 3 → sProp 𝕄) :
    (bigSep Finset.univ fun p => bigSep Finset.univ (Φ p)) = bigSep Finset.univ fun d : Fin 3 => bigSep Finset.univ fun p : Fin 6 => Φ p (lev p d) := by
  rw [bigSep_congr fun p _ => bigSep_univ_equiv (along p) (Φ p), bigSep_univ_comm]; rfl

/-! ## Elements at any contents -/

/-- A resource of a set of elements which is, of a disjoint union, that of the two sets. -/
structure Additive {ι : Type} [DecidableEq ι] (A : Finset ι → sProp 𝕄) : Prop where
  none : A ∅ = iprop(emp)
  union : ∀ S T, Disjoint S T → A (S ∪ T) = iprop(A S ∗ A T)

/-- An additive assertion over disjoint sets' union is the family of the sets' assertions. -/
theorem Additive.family {ι T : Type} [DecidableEq ι] [DecidableEq T] {A : Finset ι → sProp 𝕄} (hA : Additive A) (S : Finset T) (k : T → Finset ι)
    (h : ∀ a b, a ≠ b → Disjoint (k a) (k b)) : A (S.biUnion k) = bigSep S fun t => A (k t) := by
  induction S using Finset.induction_on with
  | empty => rw [Finset.biUnion_empty, hA.none, bigSep_empty]; rfl
  | insert t S ht ih =>
    rw [Finset.biUnion_insert, hA.union _ _ ?_, ih, peel ht]
    rw [Finset.disjoint_biUnion_right]
    exact fun t' h' => h t t' fun e => ht (e ▸ h')

/-- The elements of a set, at any contents. -/
def held (ℓ : Loc nD τ sig) (S : Finset (Idx ℓ)) : sProp 𝕄 := iprop(∃ f : Buf (Elt F) ℓ, ℓ ↦[S]{fullShare} f)

include m in
/-- Holding a location's elements is additive. -/
theorem held_additive (ℓ : Loc nD τ sig) : Additive (held (F := F) ℓ) where
  none := by
    unfold held
    refine Entails.antisymm (show (_ : sProp 𝕄) ⊢ _ from ?_) (show (_ : sProp 𝕄) ⊢ _ from ?_)
    · iintro ⟨%f, H⟩; rw [pointsTo_empty]; iempintro
    · iintro -; iexists (m ℓ); rw [pointsTo_empty]; iempintro
  union S T h := by
    unfold held
    refine Entails.antisymm (show (_ : sProp 𝕄) ⊢ _ from ?_) (show (_ : sProp 𝕄) ⊢ _ from ?_)
    · iintro ⟨%f, H⟩
      ihave H' := (pointsTo_union h).1 $$ H
      icases H' with ⟨H1, H2⟩
      isplitl [H1]
      · iexists f; iexact H1
      iexists f; iexact H2
    · iintro ⟨⟨%f, H1⟩, ⟨%g, H2⟩⟩
      iexists (T.piecewise g f)
      iapply (pointsTo_join h)
      isplitl [H1]; · iexact H1
      iexact H2

/-- The array is its six parts, -/
theorem parts_of {A : Finset (Sh 1024).Idx → sProp 𝕄} (hA : Additive A) : A Finset.univ = bigSep Finset.univ fun p => A (part p) := by
  rw [← part_cover, hA.family _ _ part_pairwise]

/-- and a part is what the neighbours keep at the three levels and the device's eighth. -/
theorem part_of {A : Finset (Sh 1024).Idx → sProp 𝕄} (hA : Additive A) (c : Dev nD) (p : Fin 6) :
    A (part p) = iprop((bigSep Finset.univ fun s => A (reg (peer (ord p s) c) p s)) ∗ A (reg c p 2)) := by
  have h0 : A (reg c p 0) = iprop(A (reg c p 1) ∗ A (reg (peer (ord p 1) c) p 1)) :=
    (congrArg A (reg_split c p 0)).trans (hA.union _ _ (reg_disjoint c p 0))
  have h1 : A (reg c p 1) = iprop(A (reg c p 2) ∗ A (reg (peer (ord p 2) c) p 2)) :=
    (congrArg A (reg_split c p 1)).trans (hA.union _ _ (reg_disjoint c p 1))
  rw [part_split c p, hA.union _ _ (part_disjoint c p), h0, h1, three]
  ac_rfl

/-- The landing buffer is its slots and what lies between them. -/
def spare : Finset (Sh 1792).Idx := Finset.univ \ (Finset.univ : Finset (Fin 6 × Fin 3)).biUnion fun a => slotReg a.1 a.2

/-- The landing buffer is its slots and the spare rows. -/
theorem slots_of {A : Finset (Sh 1792).Idx → sProp 𝕄} (hA : Additive A) :
    A Finset.univ = iprop((bigSep Finset.univ fun p => bigSep Finset.univ fun s => A (slotReg p s)) ∗ A spare) := by
  have e : (Finset.univ : Finset (Sh 1792).Idx) = ((Finset.univ : Finset (Fin 6 × Fin 3)).biUnion fun a => slotReg a.1 a.2) ∪ spare := by
    unfold spare; rw [Finset.union_sdiff_of_subset (Finset.subset_univ _)]
  rw [e, hA.union _ _ ?_, hA.family _ _ slot_pairwise, bigSep_univ_prod]
  exact Finset.disjoint_sdiff

include m in
/-- Holding elements of the work buffer is additive, -/
theorem w_additive (c : Dev nD) : Additive fun S => (iprop(∃ f, wPts c S f) : sProp 𝕄) :=
  held_additive m ((wM : Memref sig .tc .vmem S1024x1024 .bf16).view.loc (c : Thread nD τ))
include m in
/-- so is holding elements of the landing buffer -/
theorem b_additive (c : Dev nD) : Additive fun S => (iprop(∃ f, bPts c S f) : sProp 𝕄) :=
  held_additive m ((bM : Memref sig .tc .vmem S1792x1024 .bf16).view.loc (c : Thread nD τ))
include m in
/-- and of the result, -/
theorem o_additive (c : Dev nD) : Additive fun S => (iprop(∃ f, oPts c S f) : sProp 𝕄) :=
  held_additive m ((oM : Memref sig .tc .vmem S1024x1024 .bf16).view.loc (c : Thread nD τ))
/-- the latter at given contents too. -/
theorem o_at (c : Dev nD) (f : (Sh 1024).Idx → Elt F .bf16) : Additive fun S => (oPts c S f : sProp 𝕄) where
  none := pointsTo_empty
  union S T h := Entails.antisymm (pointsTo_union h).1 (pointsTo_union h).2

/-! ## What is handed over at the barrier -/

/-- What device `c` gives for a level of a part: its slot, and the rows of its result that come from the neighbour. -/
def gift (c : Dev nD) (p : Fin 6) (s : Fin 3) : sProp 𝕄 :=
  iprop((∃ f, bPts c (slotReg p s) f) ∗ ∃ f, oPts c (reg (peer (ord p s) c) p s) f)

/-- The neighbour writes there. -/
theorem gift_eq (c : Dev nD) (p : Fin 6) (d : Fin 3) :
    gift (F := F) c p (lev p d) = iprop(dst (peer d c) (up (lev p d)) p ∗ dst (peer d c) (dn (lev p d)) p) := by
  rw [dst_up, dst_dn, ord_lev, peer_peer]
  unfold gift; rw [ord_lev]

/-- The gifts to the three neighbours are the gifts of all parts and levels. -/
theorem gifts_eq (c : Dev nD) :
    (bigSep Finset.univ fun p => bigSep Finset.univ (gift (F := F) c p)) = bigSep Finset.univ fun d => barPay (peer d c) d := by
  rw [by_dim]
  exact bigSep_congr fun d _ => bigSep_congr fun p _ => gift_eq c p d

/-- What a device is given: where its exchanges write. -/
theorem given (c : Dev nD) :
    bigSep Finset.univ (barPay (F := F) c) = bigSep Finset.univ fun p => bigSep Finset.univ fun st => dst c st p := by
  rw [bigSep_congr fun p _ => by_level fun st => dst c st p, by_dim]
  rfl

/-- What a device keeps of its buffers through the barrier. -/
def Kept (c : Dev nD) : sProp 𝕄 :=
  iprop((bigSep Finset.univ fun p => iprop((∃ f, wPts c (reg (peer (ord p 0) c) p 0) f) ∗ Bare c p)) ∗ ∃ f, bPts c spare f)

include m in
/-- A device's buffers are what it gives its three neighbours and what it keeps. -/
theorem deal (c : Dev nD) :
    iprop((∃ f, wPts (F := F) c Finset.univ f) ∗ (∃ f, bPts c Finset.univ f) ∗ ∃ f, oPts c Finset.univ f)
      = iprop((bigSep Finset.univ fun d => barPay (peer d c) d) ∗ Kept c) := by
  rw [← gifts_eq]
  have hw := parts_of (w_additive m c)
  have hw' (p : Fin 6) := (congrArg (fun S => (iprop(∃ f, wPts c S f) : sProp 𝕄)) (part_split c p)).trans ((w_additive m c).union _ _ (part_disjoint c p))
  have ho := parts_of (o_additive m c)
  have ho' (p : Fin 6) := part_of (o_additive m c) c p
  have hb := slots_of (b_additive m c)
  rw [hw, ho, hb, bigSep_congr fun p _ => hw' p, bigSep_congr fun p _ => ho' p]
  unfold Kept gift Bare Eighth
  simp only [bigSep_sep']
  have shuffle (A B C S D E : sProp 𝕄) : iprop((A ∗ B) ∗ (C ∗ S) ∗ D ∗ E) = iprop((C ∗ D) ∗ (B ∗ A ∗ E) ∗ S) := by ac_rfl
  exact shuffle _ _ _ _ _ _

/-- What exchange `(st, p)` needs besides the elements it writes. -/
def pre₀ (c : Dev nD) (st p : Fin 6) : sProp 𝕄 :=
  iprop(atPos ER (sendCell c st p) 0 ∅ 0 ∗ atPos ER (recvCell c st p) 0 ∅ 0 ∗ dutyTok ER (sendCell c st p) 0 0
    ∗ dutyTok ER (recvCell (nb st p c) st p) 0 0 ∗ cred (tallyAt (recvCell c st p) () (amt st p)))

/-- What a device has after the handshake is every part's beginning and the spare rows. -/
theorem begin_all (c : Dev nD) :
    iprop((bigSep Finset.univ fun p => bigSep Finset.univ fun st => pre₀ (F := F) c st p) ∗ bigSep Finset.univ (barPay (F := F) c) ∗ Kept c)
      = iprop((bigSep Finset.univ fun p => Begin c p) ∗ ∃ f, bPts c spare f) := by
  rw [given]
  unfold Begin Kept pre pre₀
  simp only [bigSep_sep']
  ac_rfl

/-- At the end a device holds the whole result, its two buffers, and its semaphores at zero. -/
theorem end_all (c : Dev nD) :
    iprop((bigSep Finset.univ fun p => End m ρ c p) ∗ ∃ f, bPts (F := F) c spare f)
      = iprop((bigSep Finset.univ fun p => bigSep Finset.univ fun st => fin c st p) ∗ (∃ f, wPts c Finset.univ f) ∗ (∃ f, bPts c Finset.univ f)
          ∗ oPts c Finset.univ (outC m ρ)) := by
  have hw := parts_of (w_additive m c)
  have hw' (p : Fin 6) := part_of (w_additive m c) c p
  have ho := parts_of (o_at (F := F) c (outC m ρ))
  have hb := slots_of (b_additive m c)
  rw [hw, ho, hb, bigSep_congr fun p _ => hw' p]
  have hl (p : Fin 6) : bigSep Finset.univ (left (F := F) c · p)
      = iprop((bigSep Finset.univ fun st => fin c st p) ∗ bigSep Finset.univ fun s =>
          iprop((∃ f, wPts c (reg (peer (ord p s) c) p s) f) ∗ ∃ f, bPts c (slotReg p s) f)) := by
    rw [by_level, by_level, ← bigSep_sep']
    refine bigSep_congr fun s _ => ?_
    rw [left_up, left_dn, sep_nothing]
    ac_rfl
  unfold End Rest
  simp only [hl, bigSep_sep']
  ac_rfl

end Cert.KernelIdeal.Cube
-- ==== Proof.KernelIdeal.Body.lean ====
/-
# The kernel's body on one device

The handshake with the three neighbours, then the groups of operations on the six parts in the order the kernel runs them.
-/
module

public import proofs.«01_k».proof.Proof.KernelIdeal.Deal

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## What the body starts and ends with -/

/-- The kernel has one grid point, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- The positions and duty tokens of one exchange. -/
def toks (c : Dev nD) (st p : Fin 6) : sProp 𝕄 :=
  iprop(atPos ER (sendCell c st p) 0 ∅ 0 ∗ atPos ER (recvCell c st p) 0 ∅ 0 ∗ dutyTok ER (sendCell c st p) 0 0
    ∗ dutyTok ER (recvCell (nb st p c) st p) 0 0)

/-- Every cell follows the schedule, under the names `K`. -/
def records : sProp 𝕄 :=
  bigSep Finset.univ fun i : Dev nD × CIx => iprop(cellInv ER (Rd m ρ) (K i) (kcell i) ∗ reached ER (kcell i) 0)

/-- These records can be used any number of times. -/
instance records_persistent : BI.Persistent (records m ρ K) := by unfold records; infer_instance

/-- The positions and tokens of device `c`. -/
def linear (c : Dev nD) : sProp 𝕄 :=
  iprop(atPos ER (barCell c) 0 ∅ 0 ∗ (bigSep Finset.univ fun d : Fin 3 => dutyTok ER (barCell (peer d c)) 0 d)
    ∗ bigSep Finset.univ fun p => bigSep Finset.univ fun st => toks c st p)

/-- The credits of device `c`'s waits: three units at the barrier, each arrival's. -/
def credits (c : Dev nD) : sProp 𝕄 :=
  iprop(cred (tallyAt (barCell c) () 3)
    ∗ bigSep Finset.univ fun p => bigSep Finset.univ fun st => cred (tallyAt (recvCell c st p) () (amt st p)))

/-- What device `c`'s body starts from besides its buffers, -/
def begins (c : Dev nD) : sProp 𝕄 := iprop((∃ K, records m ρ K ∗ linear c) ∗ credits c ∗ levAts L lv)
/-- with its work buffer and its landing buffer at any contents; -/
def Φ₀ (c : Dev nD) : sProp 𝕄 := iprop(begins m ρ c ∗ (∃ f, wPts c Finset.univ f) ∗ ∃ f, bPts c Finset.univ f)
/-- and what it leaves: the buffers, and every semaphore at zero. -/
def Φ₁ (c : Dev nD) : sProp 𝕄 :=
  iprop((∃ f, wPts (F := F) c Finset.univ f) ∗ (∃ f, bPts c Finset.univ f)
    ∗ (bigSep Finset.univ fun p => bigSep Finset.univ fun st => fin c st p) ∗ semVal (barCell c) 0)

/-- The launch's description of device `c`: what each window's buffer holds after the point, what the device holds and owes
    before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The argument is fetched at the point. -/
theorem fetch_0 (t : Fin cfg0.N) : (cfg0.win (0 : Fin 2)).fetch t = true := by rw [fin_N t]; rfl

/-- A staged array at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` is given, -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- and what it gives back. -/
def bodyPost (c : Dev nD) : sProp 𝕄 :=
  iprop(Φ₁ (F := F) c ∗ (dats m ρ 0 c).owesAt () t₀.succ ∗ stg c cc0_stg0_0 (xstg m ρ c) ∗ stg c cc0_stg1_0 (outC m ρ))

/-! ## The handshake -/

/-- A signal to the neighbour along dimension `d`, which hands over what it will write. -/
theorem signal (c : Dev nD) (d : Fin 3) (dev : ℕ) (hdev : dev = (peer d c).val) {hlt : dev < nD} {s : Sem sig} (hs : s = barS) {k' : ℤ} (hk : k' = (1 : ℕ))
    (O : CellTallies nD τ sig Unit) (W : Waits sig Unit)
    {α : Type} {Q : α → sProp 𝕄} {k : PUnit → Prog (TpuEff nD τ sig (Elt F) Λ₀ .tc) α} :
    ctx m ρ K
      ⊢ iprop(owes (c : Thread nD τ) (O + tallyAt (barCell (peer d c)) () 1) W -∗ dutyTok ER (barCell (peer d c)) 0 d -∗ barPay (peer d c) d
          -∗ (owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal ((⟨dev, hlt⟩ : Dev nD), Proc.tc) s k') k) Q) := by
  subst hk hs hdev
  iintro #HC Ho Ht Hp Hk
  ihave #HS := (ctx_at m ρ K (peer d c, .inl ())) $$ HC
  icases HS with ⟨HI, HR⟩
  iapply (Rounds.wp_signal 𝒱₀ ER (Rd m ρ) (c : Thread nD τ) none (dst := (peer d c : Thread nD τ)) (κ := K (peer d c, .inl ()))
    (d := d) (by rw [duties_bar]; exact Finset.mem_univ _) (amount_bar m ρ (peer d c) d) () O rfl) $$ [Ho Ht Hp]
  · isplitr; · iexact HI
    isplitl [Ho]; · iexact Ho
    isplitl [Ht]; · iexact Ht
    isplitl [Hp]; · rw [payload_bar]; iexact Hp
    iexact HR
  iexact Hk

/-- The wait for the three neighbours: each has handed over what this device will write. -/
theorem await (c : Dev nD) (l : List (Fin 6 × Fin 6)) {s : Sem sig} (hs : s = barS) {k' : ℤ} (hk : k' = (3 : ℕ)) (W : Waits sig Unit)
    {α : Type} {Q : α → sProp 𝕄} {k : PUnit → Prog (TpuEff nD τ sig (Elt F) Λ₀ .tc) α} :
    ctx m ρ K
      ⊢ iprop(owes (c : Thread nD τ) (owed c l) W -∗ atPos ER (barCell c) 0 ∅ 0 -∗ cred (tallyAt (barCell c) () 3)
          -∗ ((OW c l ∗ semVal (barCell c) 0 ∗ bigSep Finset.univ (barPay c))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait s k') k) Q) := by
  subst hk hs
  unfold OW
  rw [← rest_bar m ρ c]
  iintro #HC Ho Hat Hcr Hk
  ihave #HS := (ctx_at m ρ K (c, .inl ())) $$ HC
  ihave #HL := (ctx_levs m ρ K) $$ HC
  icases HS with ⟨HI, HRs⟩
  iapply (Rounds.wp_wait_rest_token 𝒱₀ ER (Rd m ρ) (c : Thread nD τ) none (sm := .reg barS) (κ := K (c, .inl ()))
    (wpE_semWait_eq 𝒱₀ (c : Thread nD τ) none Set.univ) (Set.mem_univ _) () (O := owed c l) (W := W) (R := 0) (m := 0) (T := ∅)
    (by rw [zero_add]; exact (expect_bar m ρ c).symm)) $$ [Hcr Ho Hat]
  · isplitr; · iexact HI
    isplitl [Hcr]; · iexact Hcr
    isplitl [Ho]; · iexact Ho
    isplitr; · iapply (mayWait_owed (F := F) c (.reg barS) l (fun e _ => by rw [lv_bar c]; omega)) $$ HL
    iexact Hat
  iintro ⟨Ho, Hat, #Hr, Hpay⟩
  imod (cell_close ER (Rd m ρ) (g := barCell c) (κ := K (c, .inl ())) (Es := Set.univ) (Set.mem_univ _)
    (fun h => h) (R := 1) (duties_later m ρ _)) $$ [Hat] with Hv
  · isplitr; · iexact HI
    iexact Hat
  iapply Hk
  isplitl [Ho]; · iexists _; iexact Ho
  isplitl [Hv]; · iexact Hv
  iexact Hpay

/-! ## Offsets and devices as the kernel computes them -/

/-- An offset of the first row and column the device keeps of a part at a level, -/
abbrev Within (f : Dev nD → Fin 2 → ℕ) (p : Fin 6) (s : Fin 3) : Prop := ∀ c : Dev nD, f c = ![seg c p s, col p]
/-- of those its neighbour keeps, -/
abbrev Beyond (f : Dev nD → Fin 2 → ℕ) (p : Fin 6) (s : Fin 3) : Prop := ∀ c : Dev nD, f c = ![seg (peer (ord p s) c) p s, col p]
/-- and both in the staged argument. -/
abbrev From (f : Dev nD → Fin 3 → ℕ) (p : Fin 6) (s : Fin 3) : Prop := ∀ c : Dev nD, f c = ![0, seg c p s, col p]
/-- Offsets into the argument at the region that the neighbour keeps. -/
abbrev FromBeyond (f : Dev nD → Fin 3 → ℕ) (p : Fin 6) (s : Fin 3) : Prop := ∀ c : Dev nD, f c = ![0, seg (peer (ord p s) c) p s, col p]
/-- The neighbour's number. -/
abbrev Toward (f : Dev nD → ℕ) (p : Fin 6) (s : Fin 3) : Prop := ∀ c : Dev nD, f c = (peer (ord p s) c).val

/-- The sum of two blocks, element by element. -/
theorem sum_apply {n : ℕ} (x y : Vec F (⟨2, ![n, 512]⟩ : Shape) .bf16) (h : (⟨2, ![n, 512]⟩ : Shape).ShapeCasts ⟨2, ![n, 512]⟩)
    (j : (⟨2, ![n, 512]⟩ : Shape).Idx) : shapeCast ⟨2, ![n, 512]⟩ (addf (F := F) (φ := .bf16) x y) h j = plus (x j) (y j) := by
  rw [shapeCast_self]; rfl

/-- A family over the six parts, one by one. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The body -/

set_option maxRecDepth 100000 in
set_option maxHeartbeats 4000000 in
/-- From the start, the body runs to the end. -/
theorem sound_body (c : Dev nD) (Kt : PUnit → sProp 𝕄) :
    ctx m ρ K
      ⊢ iprop(xPts m ρ c -∗ (∃ W, owes (c : Thread nD τ) (O₀ c) W) -∗ linear c -∗ credits c
          -∗ (bigSep Finset.univ fun d => barPay (peer d c) d) -∗ Kept c
          -∗ ((xPts m ρ c ∗ OW c [] ∗ semVal (barCell c) 0 ∗ (bigSep Finset.univ fun p => End m ρ c p) ∗ ∃ f, bPts c spare f) -∗ Kt ⟨⟩)
          -∗ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) := by
  simp only [cc0_body_eq_skeleton]; unfold cc0_body_skel
  simp only [k0_part35_eq_skeleton]; unfold k0_part35_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
    k0_part20_skel k0_part21_skel k0_part22_skel k0_part23_skel k0_part24_skel k0_part25_skel k0_part26_skel k0_part27_skel k0_part28_skel
    k0_part29_skel k0_part30_skel k0_part31_skel k0_part32_skel k0_part33_skel k0_part34_skel
  simp only [semSignalWord, semWaitWord, Prog.lift, Prog.bind_op, Prog.bind_ret, Prog.pure_eq_ret, wp_deviceId]
  have hb : iprop((bigSep Finset.univ fun p => bigSep Finset.univ fun st => toks (F := F) c st p)
        ∗ (bigSep Finset.univ fun p => bigSep Finset.univ fun st => cred (tallyAt (recvCell c st p) () (amt st p)))
        ∗ bigSep Finset.univ (barPay (F := F) c) ∗ Kept c)
      ⊢ iprop((bigSep Finset.univ fun p => Begin (F := F) c p) ∗ ∃ f, bPts c spare f) := by
    rw [← begin_all]
    unfold pre₀ toks
    simp only [bigSep_sep']
    exact Entails.of_eq (by ac_rfl)
  unfold linear credits
  rw [three, three]
  rw [six (fun p => Begin c p)] at hb
  rw [six (fun p => End m ρ c p)]
  iintro #HC Hx ⟨%W, Ho⟩ ⟨Hat, Hd, Ht⟩ ⟨Hcr, Hcs⟩ Hg Hkept Hk
  icases Hd with ⟨Hd0, Hd1, Hd2⟩
  icases Hg with ⟨Hg0, Hg1, Hg2⟩
  ihave Ho := (show owes (c : Thread nD τ) (O₀ c) W ⊢ (owes (c : Thread nD τ) (O₂ c + tallyAt (barCell (peer 0 c)) () 1) W : sProp 𝕄) from Entails.refl _) $$ Ho
  iapply (signal m ρ K c 0 _ ((by decide +kernel : ∀ c, k0_dev1 c = (peer 0 c).val) c) rfl (by decide) (O₂ c) W) $$ HC Ho Hd0 Hg0
  iintro Ho
  ihave Ho := (show owes (c : Thread nD τ) (O₂ c) W ⊢ (owes (c : Thread nD τ) (O₁ c + tallyAt (barCell (peer 1 c)) () 1) W : sProp 𝕄) from Entails.refl _) $$ Ho
  iapply (signal m ρ K c 1 _ ((by decide +kernel : ∀ c, k0_dev2 c = (peer 1 c).val) c) rfl (by decide) (O₁ c) W) $$ HC Ho Hd1 Hg1
  iintro Ho
  ihave Ho := (show owes (c : Thread nD τ) (O₁ c) W ⊢ (owes (c : Thread nD τ) (owed c sched + tallyAt (barCell (peer 2 c)) () 1) W : sProp 𝕄) from Entails.refl _) $$ Ho
  iapply (signal m ρ K c 2 _ ((by decide +kernel : ∀ c, k0_dev3 c = (peer 2 c).val) c) rfl (by decide) (owed c sched) W) $$ HC Ho Hd2 Hg2
  iintro Ho
  iapply (await m ρ K c sched rfl (by decide) W) $$ HC Ho Hat Hcr
  iintro ⟨Ho, Hv, Hp⟩
  ihave Hb := hb $$ [Ht Hcs Hp Hkept]
  · isplitl [Ht]; · iexact Ht
    isplitl [Hcs]; · iexact Hcs
    isplitl [Hp]; · iexact Hp
    iexact Hkept
  icases Hb with ⟨⟨H0, H1, H2, H3, H4, H5⟩, Hs⟩
  ihave Ho := (show OW c sched ⊢ OW (F := F) c [(0, 0), (0, 2), (0, 4), (0, 1), (0, 3), (0, 5), (1, 2), (1, 4), (1, 0), (1, 3), (1, 5), (1, 1), (2, 2), (2, 4), (2, 0), (2, 3), (2, 5), (2, 1), (3, 2), (3, 4), (3, 0), (3, 3), (3, 5), (3, 1), (4, 2), (4, 4), (4, 0), (4, 3), (4, 5), (4, 1), (5, 2), (5, 4), (5, 0), (5, 3), (5, 5), (5, 1)] from Entails.refl _) $$ Ho
  iapply (start m ρ K c 0 _ rfl _ ((by decide +kernel : FromBeyond k0_off1 0 0) c) _ ((by decide +kernel : Beyond k0_off2 0 0) c) _ ((by decide +kernel : Beyond k0_off3 0 0) c) ![0, 0] (by decide)
    _ ((by decide +kernel : Toward k0_dev4 0 0) c) k0_pay1 (fun x j => drop_apply x _ _ j) (sendSem 0 0 0 (by decide)) (recvSem 0 0 0 (by decide))) $$ HC Hx Ho H0
  iintro ⟨Hx, Ho, H0⟩
  iapply (start m ρ K c 2 _ rfl _ ((by decide +kernel : FromBeyond (fun c => k0_off4 c 512#32 1#32) 2 0) c) _ ((by decide +kernel : Beyond (fun c => k0_off5 c 512#32 1#32) 2 0) c) _ ((by decide +kernel : Beyond (fun c => k0_off6 c 512#32 1#32) 2 0) c) ![896, 0] (by decide)
    _ ((by decide +kernel : Toward k0_dev5 2 0) c) k0_pay2 (fun x j => drop_apply x _ _ j) (sendSem 2 0 2 (by decide)) (recvSem 2 0 2 (by decide))) $$ HC Hx Ho H2
  iintro ⟨Hx, Ho, H2⟩
  iapply (start m ρ K c 4 _ rfl _ ((by decide +kernel : FromBeyond (fun c => k0_off4 c 768#32 2#32) 4 0) c) _ ((by decide +kernel : Beyond (fun c => k0_off5 c 768#32 2#32) 4 0) c) _ ((by decide +kernel : Beyond (fun c => k0_off6 c 768#32 2#32) 4 0) c) ![1344, 0] (by decide)
    _ ((by decide +kernel : Toward k0_dev6 4 0) c) k0_pay3 (fun x j => drop_apply x _ _ j) (sendSem 4 0 4 (by decide)) (recvSem 4 0 4 (by decide))) $$ HC Hx Ho H4
  iintro ⟨Hx, Ho, H4⟩
  iapply (start m ρ K c 1 _ rfl _ ((by decide +kernel : FromBeyond k0_off7 1 0) c) _ ((by decide +kernel : Beyond k0_off8 1 0) c) _ ((by decide +kernel : Beyond k0_off9 1 0) c) ![448, 512] (by decide)
    _ ((by decide +kernel : Toward k0_dev7 1 0) c) (fun x => k0_pay5 (k0_pay4 x)) (fun x j => drop_apply x _ _ j) (sendSem 1 0 1 (by decide)) (recvSem 1 0 1 (by decide))) $$ HC Hx Ho H1
  iintro ⟨Hx, Ho, H1⟩
  iapply (start m ρ K c 3 _ rfl _ ((by decide +kernel : FromBeyond (fun c => k0_off10 c 512#32 1#32) 3 0) c) _ ((by decide +kernel : Beyond (fun c => k0_off11 c 512#32 1#32) 3 0) c) _ ((by decide +kernel : Beyond (fun c => k0_off12 c 512#32 1#32) 3 0) c) ![1120, 512] (by decide)
    _ ((by decide +kernel : Toward k0_dev8 3 0) c) k0_pay6 (fun x j => drop_apply x _ _ j) (sendSem 3 0 3 (by decide)) (recvSem 3 0 3 (by decide))) $$ HC Hx Ho H3
  iintro ⟨Hx, Ho, H3⟩
  iapply (start m ρ K c 5 _ rfl _ ((by decide +kernel : FromBeyond (fun c => k0_off10 c 768#32 2#32) 5 0) c) _ ((by decide +kernel : Beyond (fun c => k0_off11 c 768#32 2#32) 5 0) c) _ ((by decide +kernel : Beyond (fun c => k0_off12 c 768#32 2#32) 5 0) c) ![1568, 512] (by decide)
    _ ((by decide +kernel : Toward k0_dev9 5 0) c) k0_pay7 (fun x j => drop_apply x _ _ j) (sendSem 5 0 5 (by decide)) (recvSem 5 0 5 (by decide))) $$ HC Hx Ho H5
  iintro ⟨Hx, Ho, H5⟩
  iapply (keep m ρ c 0 rfl _ ((by decide +kernel : From k0_off13 0 0) c) _ ((by decide +kernel : Within k0_off14 0 0) c) k0_pay8 (fun x j => drop_apply x _ _ j)) $$ Hx H0
  iintro ⟨Hx, H0⟩
  iapply (keep m ρ c 2 rfl _ ((by decide +kernel : From (fun c => k0_off15 c 512#32 1#32) 2 0) c) _ ((by decide +kernel : Within (fun c => k0_off16 c 512#32 1#32) 2 0) c) (fun x => k0_pay10 (k0_pay9 x)) (fun x j => drop_apply x _ _ j)) $$ Hx H2
  iintro ⟨Hx, H2⟩
  iapply (keep m ρ c 4 rfl _ ((by decide +kernel : From (fun c => k0_off15 c 768#32 2#32) 4 0) c) _ ((by decide +kernel : Within (fun c => k0_off16 c 768#32 2#32) 4 0) c) k0_pay11 (fun x j => drop_apply x _ _ j)) $$ Hx H4
  iintro ⟨Hx, H4⟩
  iapply (keep m ρ c 1 rfl _ ((by decide +kernel : From k0_off17 1 0) c) _ ((by decide +kernel : Within k0_off18 1 0) c) k0_pay12 (fun x j => drop_apply x _ _ j)) $$ Hx H1
  iintro ⟨Hx, H1⟩
  iapply (keep m ρ c 3 rfl _ ((by decide +kernel : From (fun c => k0_off19 c 512#32 1#32) 3 0) c) _ ((by decide +kernel : Within (fun c => k0_off20 c 512#32 1#32) 3 0) c) k0_pay13 (fun x j => drop_apply x _ _ j)) $$ Hx H3
  iintro ⟨Hx, H3⟩
  iapply (keep m ρ c 5 rfl _ ((by decide +kernel : From (fun c => k0_off19 c 768#32 2#32) 5 0) c) _ ((by decide +kernel : Within (fun c => k0_off20 c 768#32 2#32) 5 0) c) k0_pay14 (fun x j => drop_apply x _ _ j)) $$ Hx H5
  iintro ⟨Hx, H5⟩
  iapply (add m ρ K c 2 0 1 0 1 rfl rfl rfl _ (by decide) rfl rfl _ ((by decide +kernel : Within (fun c => k0_off16 c 512#32 1#32) 2 0) c) ![896, 0] (by decide)
    _ ((by decide +kernel : Beyond k0_off21 2 1) c) ![1024, 0] (by decide) _ ((by decide +kernel : Toward k0_dev10 2 1) c) k0_pay15 (fun x y j => sum_apply x y _ j)
    (sendSem 2 0 2 (by decide)) (recvSem 2 0 2 (by decide)) (sendSem 8 1 2 (by decide)) (recvSem 8 1 2 (by decide))) $$ HC Ho H2
  iintro ⟨Ho, H2⟩
  iapply (add m ρ K c 4 0 1 0 1 rfl rfl rfl _ (by decide) rfl rfl _ ((by decide +kernel : Within (fun c => k0_off16 c 768#32 2#32) 4 0) c) ![1344, 0] (by decide)
    _ ((by decide +kernel : Beyond k0_off22 4 1) c) ![1472, 0] (by decide) _ ((by decide +kernel : Toward k0_dev11 4 1) c) k0_pay16 (fun x y j => sum_apply x y _ j)
    (sendSem 4 0 4 (by decide)) (recvSem 4 0 4 (by decide)) (sendSem 10 1 4 (by decide)) (recvSem 10 1 4 (by decide))) $$ HC Ho H4
  iintro ⟨Ho, H4⟩
  iapply (add m ρ K c 0 0 1 0 1 rfl rfl rfl _ (by decide) rfl rfl _ ((by decide +kernel : Within k0_off14 0 0) c) ![0, 0] (by decide)
    _ ((by decide +kernel : Beyond k0_off23 0 1) c) ![256, 0] (by decide) _ ((by decide +kernel : Toward k0_dev12 0 1) c) k0_pay17 (fun x y j => sum_apply x y _ j)
    (sendSem 0 0 0 (by decide)) (recvSem 0 0 0 (by decide)) (sendSem 6 1 0 (by decide)) (recvSem 6 1 0 (by decide))) $$ HC Ho H0
  iintro ⟨Ho, H0⟩
  iapply (add m ρ K c 3 0 1 0 1 rfl rfl rfl _ (by decide) rfl rfl _ ((by decide +kernel : Within (fun c => k0_off20 c 512#32 1#32) 3 0) c) ![1120, 512] (by decide)
    _ ((by decide +kernel : Beyond k0_off24 3 1) c) ![1248, 512] (by decide) _ ((by decide +kernel : Toward k0_dev13 3 1) c) k0_pay18 (fun x y j => sum_apply x y _ j)
    (sendSem 3 0 3 (by decide)) (recvSem 3 0 3 (by decide)) (sendSem 9 1 3 (by decide)) (recvSem 9 1 3 (by decide))) $$ HC Ho H3
  iintro ⟨Ho, H3⟩
  iapply (add m ρ K c 5 0 1 0 1 rfl rfl rfl _ (by decide) rfl rfl _ ((by decide +kernel : Within (fun c => k0_off20 c 768#32 2#32) 5 0) c) ![1568, 512] (by decide)
    _ ((by decide +kernel : Beyond k0_off25 5 1) c) ![1696, 512] (by decide) _ ((by decide +kernel : Toward k0_dev14 5 1) c) k0_pay19 (fun x y j => sum_apply x y _ j)
    (sendSem 5 0 5 (by decide)) (recvSem 5 0 5 (by decide)) (sendSem 11 1 5 (by decide)) (recvSem 11 1 5 (by decide))) $$ HC Ho H5
  iintro ⟨Ho, H5⟩
  iapply (add m ρ K c 1 0 1 0 1 rfl rfl rfl _ (by decide) rfl rfl _ ((by decide +kernel : Within k0_off18 1 0) c) ![448, 512] (by decide)
    _ ((by decide +kernel : Beyond k0_off26 1 1) c) ![704, 512] (by decide) _ ((by decide +kernel : Toward k0_dev15 1 1) c) k0_pay20 (fun x y j => sum_apply x y _ j)
    (sendSem 1 0 1 (by decide)) (recvSem 1 0 1 (by decide)) (sendSem 7 1 1 (by decide)) (recvSem 7 1 1 (by decide))) $$ HC Ho H1
  iintro ⟨Ho, H1⟩
  iapply (add m ρ K c 2 1 2 1 2 rfl rfl rfl _ (by decide) rfl rfl _ ((by decide +kernel : Within k0_off27 2 1) c) ![1024, 0] (by decide)
    _ ((by decide +kernel : Beyond k0_off28 2 2) c) ![1088, 0] (by decide) _ ((by decide +kernel : Toward k0_dev16 2 2) c) k0_pay21 (fun x y j => sum_apply x y _ j)
    (sendSem 8 1 2 (by decide)) (recvSem 8 1 2 (by decide)) (sendSem 14 2 2 (by decide)) (recvSem 14 2 2 (by decide))) $$ HC Ho H2
  iintro ⟨Ho, H2⟩
  iapply (add m ρ K c 4 1 2 1 2 rfl rfl rfl _ (by decide) rfl rfl _ ((by decide +kernel : Within k0_off29 4 1) c) ![1472, 0] (by decide)
    _ ((by decide +kernel : Beyond k0_off30 4 2) c) ![1536, 0] (by decide) _ ((by decide +kernel : Toward k0_dev17 4 2) c) k0_pay22 (fun x y j => sum_apply x y _ j)
    (sendSem 10 1 4 (by decide)) (recvSem 10 1 4 (by decide)) (sendSem 16 2 4 (by decide)) (recvSem 16 2 4 (by decide))) $$ HC Ho H4
  iintro ⟨Ho, H4⟩
  iapply (add m ρ K c 0 1 2 1 2 rfl rfl rfl _ (by decide) rfl rfl _ ((by decide +kernel : Within k0_off31 0 1) c) ![256, 0] (by decide)
    _ ((by decide +kernel : Beyond k0_off32 0 2) c) ![384, 0] (by decide) _ ((by decide +kernel : Toward k0_dev18 0 2) c) k0_pay23 (fun x y j => sum_apply x y _ j)
    (sendSem 6 1 0 (by decide)) (recvSem 6 1 0 (by decide)) (sendSem 12 2 0 (by decide)) (recvSem 12 2 0 (by decide))) $$ HC Ho H0
  iintro ⟨Ho, H0⟩
  iapply (add m ρ K c 3 1 2 1 2 rfl rfl rfl _ (by decide) rfl rfl _ ((by decide +kernel : Within k0_off33 3 1) c) ![1248, 512] (by decide)
    _ ((by decide +kernel : Beyond k0_off34 3 2) c) ![1312, 512] (by decide) _ ((by decide +kernel : Toward k0_dev19 3 2) c) k0_pay24 (fun x y j => sum_apply x y _ j)
    (sendSem 9 1 3 (by decide)) (recvSem 9 1 3 (by decide)) (sendSem 15 2 3 (by decide)) (recvSem 15 2 3 (by decide))) $$ HC Ho H3
  iintro ⟨Ho, H3⟩
  iapply (add m ρ K c 5 1 2 1 2 rfl rfl rfl _ (by decide) rfl rfl _ ((by decide +kernel : Within k0_off35 5 1) c) ![1696, 512] (by decide)
    _ ((by decide +kernel : Beyond k0_off36 5 2) c) ![1760, 512] (by decide) _ ((by decide +kernel : Toward k0_dev20 5 2) c) (fun x y => k0_pay26 (k0_pay25 x y)) (fun x y j => sum_apply x y _ j)
    (sendSem 11 1 5 (by decide)) (recvSem 11 1 5 (by decide)) (sendSem 17 2 5 (by decide)) (recvSem 17 2 5 (by decide))) $$ HC Ho H5
  iintro ⟨Ho, H5⟩
  iapply (add m ρ K c 1 1 2 1 2 rfl rfl rfl _ (by decide) rfl rfl _ ((by decide +kernel : Within k0_off37 1 1) c) ![704, 512] (by decide)
    _ ((by decide +kernel : Beyond k0_off38 1 2) c) ![832, 512] (by decide) _ ((by decide +kernel : Toward k0_dev21 1 2) c) k0_pay27 (fun x y j => sum_apply x y _ j)
    (sendSem 7 1 1 (by decide)) (recvSem 7 1 1 (by decide)) (sendSem 13 2 1 (by decide)) (recvSem 13 2 1 (by decide))) $$ HC Ho H1
  iintro ⟨Ho, H1⟩
  iapply (total m ρ K c 2 _ (by decide) rfl _ ((by decide +kernel : Within k0_off39 2 2) c) _ ((by decide +kernel : Within k0_off39 2 2) c) ![1088, 0] (by decide)
    _ ((by decide +kernel : Within k0_off40 2 2) c) _ ((by decide +kernel : Toward k0_dev22 2 2) c) k0_pay28 (fun _ _ _ => rfl)
    (sendSem 14 2 2 (by decide)) (recvSem 14 2 2 (by decide)) (sendSem 20 3 2 (by decide)) (recvSem 20 3 2 (by decide))) $$ HC Ho H2
  iintro ⟨Ho, H2⟩
  iapply (total m ρ K c 4 _ (by decide) rfl _ ((by decide +kernel : Within k0_off41 4 2) c) _ ((by decide +kernel : Within k0_off41 4 2) c) ![1536, 0] (by decide)
    _ ((by decide +kernel : Within k0_off42 4 2) c) _ ((by decide +kernel : Toward k0_dev23 4 2) c) k0_pay29 (fun _ _ _ => rfl)
    (sendSem 16 2 4 (by decide)) (recvSem 16 2 4 (by decide)) (sendSem 22 3 4 (by decide)) (recvSem 22 3 4 (by decide))) $$ HC Ho H4
  iintro ⟨Ho, H4⟩
  iapply (total m ρ K c 0 _ (by decide) rfl _ ((by decide +kernel : Within k0_off43 0 2) c) _ ((by decide +kernel : Within k0_off43 0 2) c) ![384, 0] (by decide)
    _ ((by decide +kernel : Within k0_off44 0 2) c) _ ((by decide +kernel : Toward k0_dev24 0 2) c) k0_pay30 (fun _ _ _ => rfl)
    (sendSem 12 2 0 (by decide)) (recvSem 12 2 0 (by decide)) (sendSem 18 3 0 (by decide)) (recvSem 18 3 0 (by decide))) $$ HC Ho H0
  iintro ⟨Ho, H0⟩
  iapply (total m ρ K c 3 _ (by decide) rfl _ ((by decide +kernel : Within k0_off45 3 2) c) _ ((by decide +kernel : Within k0_off45 3 2) c) ![1312, 512] (by decide)
    _ ((by decide +kernel : Within k0_off46 3 2) c) _ ((by decide +kernel : Toward k0_dev25 3 2) c) k0_pay31 (fun _ _ _ => rfl)
    (sendSem 15 2 3 (by decide)) (recvSem 15 2 3 (by decide)) (sendSem 21 3 3 (by decide)) (recvSem 21 3 3 (by decide))) $$ HC Ho H3
  iintro ⟨Ho, H3⟩
  iapply (total m ρ K c 5 _ (by decide) rfl _ ((by decide +kernel : Within k0_off47 5 2) c) _ ((by decide +kernel : Within k0_off47 5 2) c) ![1760, 512] (by decide)
    _ ((by decide +kernel : Within k0_off48 5 2) c) _ ((by decide +kernel : Toward k0_dev26 5 2) c) k0_pay32 (fun _ _ _ => rfl)
    (sendSem 17 2 5 (by decide)) (recvSem 17 2 5 (by decide)) (sendSem 23 3 5 (by decide)) (recvSem 23 3 5 (by decide))) $$ HC Ho H5
  iintro ⟨Ho, H5⟩
  iapply (total m ρ K c 1 _ (by decide) rfl _ ((by decide +kernel : Within k0_off49 1 2) c) _ ((by decide +kernel : Within k0_off49 1 2) c) ![832, 512] (by decide)
    _ ((by decide +kernel : Within k0_off50 1 2) c) _ ((by decide +kernel : Toward k0_dev27 1 2) c) k0_pay33 (fun _ _ _ => rfl)
    (sendSem 13 2 1 (by decide)) (recvSem 13 2 1 (by decide)) (sendSem 19 3 1 (by decide)) (recvSem 19 3 1 (by decide))) $$ HC Ho H1
  iintro ⟨Ho, H1⟩
  iapply (back m ρ K c 2 3 4 2 1 rfl rfl rfl _ (by decide) rfl rfl _ ((by decide +kernel : Within k0_off51 2 1) c) _ ((by decide +kernel : Toward k0_dev28 2 1) c)
    (sendSem 20 3 2 (by decide)) (recvSem 20 3 2 (by decide)) (sendSem 26 4 2 (by decide)) (recvSem 26 4 2 (by decide))) $$ HC Ho H2
  iintro ⟨Ho, H2⟩
  iapply (back m ρ K c 4 3 4 2 1 rfl rfl rfl _ (by decide) rfl rfl _ ((by decide +kernel : Within k0_off52 4 1) c) _ ((by decide +kernel : Toward k0_dev29 4 1) c)
    (sendSem 22 3 4 (by decide)) (recvSem 22 3 4 (by decide)) (sendSem 28 4 4 (by decide)) (recvSem 28 4 4 (by decide))) $$ HC Ho H4
  iintro ⟨Ho, H4⟩
  iapply (back m ρ K c 0 3 4 2 1 rfl rfl rfl _ (by decide) rfl rfl _ ((by decide +kernel : Within k0_off53 0 1) c) _ ((by decide +kernel : Toward k0_dev30 0 1) c)
    (sendSem 18 3 0 (by decide)) (recvSem 18 3 0 (by decide)) (sendSem 24 4 0 (by decide)) (recvSem 24 4 0 (by decide))) $$ HC Ho H0
  iintro ⟨Ho, H0⟩
  iapply (back m ρ K c 3 3 4 2 1 rfl rfl rfl _ (by decide) rfl rfl _ ((by decide +kernel : Within k0_off54 3 1) c) _ ((by decide +kernel : Toward k0_dev31 3 1) c)
    (sendSem 21 3 3 (by decide)) (recvSem 21 3 3 (by decide)) (sendSem 27 4 3 (by decide)) (recvSem 27 4 3 (by decide))) $$ HC Ho H3
  iintro ⟨Ho, H3⟩
  iapply (back m ρ K c 5 3 4 2 1 rfl rfl rfl _ (by decide) rfl rfl _ ((by decide +kernel : Within k0_off55 5 1) c) _ ((by decide +kernel : Toward k0_dev32 5 1) c)
    (sendSem 23 3 5 (by decide)) (recvSem 23 3 5 (by decide)) (sendSem 29 4 5 (by decide)) (recvSem 29 4 5 (by decide))) $$ HC Ho H5
  iintro ⟨Ho, H5⟩
  iapply (back m ρ K c 1 3 4 2 1 rfl rfl rfl _ (by decide) rfl rfl _ ((by decide +kernel : Within k0_off56 1 1) c) _ ((by decide +kernel : Toward k0_dev33 1 1) c)
    (sendSem 19 3 1 (by decide)) (recvSem 19 3 1 (by decide)) (sendSem 25 4 1 (by decide)) (recvSem 25 4 1 (by decide))) $$ HC Ho H1
  iintro ⟨Ho, H1⟩
  iapply (back m ρ K c 2 4 5 1 0 rfl rfl rfl _ (by decide) rfl rfl _ ((by decide +kernel : Within k0_off57 2 0) c) _ ((by decide +kernel : Toward k0_dev34 2 0) c)
    (sendSem 26 4 2 (by decide)) (recvSem 26 4 2 (by decide)) (sendSem 32 5 2 (by decide)) (recvSem 32 5 2 (by decide))) $$ HC Ho H2
  iintro ⟨Ho, H2⟩
  iapply (back m ρ K c 4 4 5 1 0 rfl rfl rfl _ (by decide) rfl rfl _ ((by decide +kernel : Within k0_off58 4 0) c) _ ((by decide +kernel : Toward k0_dev35 4 0) c)
    (sendSem 28 4 4 (by decide)) (recvSem 28 4 4 (by decide)) (sendSem 34 5 4 (by decide)) (recvSem 34 5 4 (by decide))) $$ HC Ho H4
  iintro ⟨Ho, H4⟩
  iapply (back m ρ K c 0 4 5 1 0 rfl rfl rfl _ (by decide) rfl rfl _ ((by decide +kernel : Within k0_off59 0 0) c) _ ((by decide +kernel : Toward k0_dev36 0 0) c)
    (sendSem 24 4 0 (by decide)) (recvSem 24 4 0 (by decide)) (sendSem 30 5 0 (by decide)) (recvSem 30 5 0 (by decide))) $$ HC Ho H0
  iintro ⟨Ho, H0⟩
  iapply (back m ρ K c 3 4 5 1 0 rfl rfl rfl _ (by decide) rfl rfl _ ((by decide +kernel : Within k0_off60 3 0) c) _ ((by decide +kernel : Toward k0_dev37 3 0) c)
    (sendSem 27 4 3 (by decide)) (recvSem 27 4 3 (by decide)) (sendSem 33 5 3 (by decide)) (recvSem 33 5 3 (by decide))) $$ HC Ho H3
  iintro ⟨Ho, H3⟩
  iapply (back m ρ K c 5 4 5 1 0 rfl rfl rfl _ (by decide) rfl rfl _ ((by decide +kernel : Within k0_off61 5 0) c) _ ((by decide +kernel : Toward k0_dev38 5 0) c)
    (sendSem 29 4 5 (by decide)) (recvSem 29 4 5 (by decide)) (sendSem 35 5 5 (by decide)) (recvSem 35 5 5 (by decide))) $$ HC Ho H5
  iintro ⟨Ho, H5⟩
  iapply (back m ρ K c 1 4 5 1 0 rfl rfl rfl _ (by decide) rfl rfl _ ((by decide +kernel : Within k0_off62 1 0) c) _ ((by decide +kernel : Toward k0_dev39 1 0) c)
    (sendSem 25 4 1 (by decide)) (recvSem 25 4 1 (by decide)) (sendSem 31 5 1 (by decide)) (recvSem 31 5 1 (by decide))) $$ HC Ho H1
  iintro ⟨Ho, H1⟩
  iapply (finish m ρ K c 2 _ (by decide) rfl (sendSem 32 5 2 (by decide)) (recvSem 32 5 2 (by decide))) $$ HC Ho H2
  iintro ⟨Ho, H2⟩
  iapply (finish m ρ K c 4 _ (by decide) rfl (sendSem 34 5 4 (by decide)) (recvSem 34 5 4 (by decide))) $$ HC Ho H4
  iintro ⟨Ho, H4⟩
  iapply (finish m ρ K c 0 _ (by decide) rfl (sendSem 30 5 0 (by decide)) (recvSem 30 5 0 (by decide))) $$ HC Ho H0
  iintro ⟨Ho, H0⟩
  iapply (finish m ρ K c 3 _ (by decide) rfl (sendSem 33 5 3 (by decide)) (recvSem 33 5 3 (by decide))) $$ HC Ho H3
  iintro ⟨Ho, H3⟩
  iapply (finish m ρ K c 5 _ (by decide) rfl (sendSem 35 5 5 (by decide)) (recvSem 35 5 5 (by decide))) $$ HC Ho H5
  iintro ⟨Ho, H5⟩
  iapply (finish m ρ K c 1 _ (by decide) rfl (sendSem 31 5 1 (by decide)) (recvSem 31 5 1 (by decide))) $$ HC Ho H1
  iintro ⟨Ho, H1⟩
  rw [wp_ret]; imodintro
  iapply Hk
  isplitl [Hx]; · iexact Hx
  isplitl [Ho]; · iexact Ho
  isplitl [Hv]; · iexact Hv
  isplitr [Hs]
  · isplitl [H0]; · iexact H0
    isplitl [H1]; · iexact H1
    isplitl [H2]; · iexact H2
    isplitl [H3]; · iexact H3
    isplitl [H4]; · iexact H4
    iexact H5
  iexact Hs

end Cert.KernelIdeal.Cube
-- ==== Proof.KernelIdeal.Launch.lean ====
/-
# The run

The kernel's launch on the eight devices: the cells are set up, their duty tokens go to the devices that pay them, the
credits to those that wait; every run ends with the result on every device.
-/
module

public import proofs.«01_k».proof.Proof.KernelIdeal.Body
public import Idealize.ShloMosaic.Lib.Pipeline.CollectiveSegs

@[expose] public section

noncomputable section

namespace Cert.KernelIdeal.Cube

open Cert.Cube
open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body at the launch's interface -/

/-- To own a whole buffer at given contents is to hold it with those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged argument and the staged result as the launch names them. -/
theorem x_at (c : Dev nD) : xPts m ρ c = ((((c : Thread nD τ).loc cc0_stg0_0) ↦{fullShare} (xstg m ρ c)) : sProp 𝕄) := rfl
/-- and the staged result. -/
theorem out_at (c : Dev nD) (f : (Sh 1024).Idx → Elt F .bf16) :
    oPts c Finset.univ f = ((((c : Thread nD τ).loc cc0_stg1_0) ↦{fullShare} f) : sProp 𝕄) := rfl

set_option maxRecDepth 100000 in
/-- The body, from what the launch gives it, leaves what the launch expects. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  have hpost : iprop(xPts m ρ c ∗ OW (F := F) c [] ∗ semVal (barCell c) 0 ∗ (bigSep Finset.univ fun p => End m ρ c p) ∗ ∃ f, bPts c spare f)
      ⊢ bodyPost m ρ c := by
    rw [end_all m ρ c]
    unfold bodyPost Φ₁ Dat.owesAt Pipeline.owesWithin OW
    rw [show (dats m ρ 0 c).owed t₀.succ = 0 from rfl]
    iintro ⟨Hx, ⟨%W, Ho⟩, Hv, Hf, Hw, Hb, Hout⟩
    isplitl [Hv Hf Hw Hb]
    · isplitl [Hw]; · iexact Hw
      isplitl [Hb]; · iexact Hb
      isplitl [Hf]; · iexact Hf
      iexact Hv
    isplitl [Ho]
    · iexists W
      isplitr; · ipureintro; exact fun _ _ => Or.inl trivial
      iexact Ho
    isplitl [Hx]
    · iexists _; isplitr; · (ipureintro; rfl)
      iapply (Entails.of_eq (x_at m ρ c)); iexact Hx
    iexists _; isplitr; · (ipureintro; rfl)
    iapply (Entails.of_eq (out_at c (outC m ρ))); iexact Hout
  unfold bodyPre Φ₀ begins Dat.owesAt Pipeline.owesWithin
  rw [show (dats m ρ 0 c).owed t₀.castSucc = O₀ c from rfl]
  iintro ⟨⟨⟨⟨%K, #HR, Hlin⟩, Hcr, #HL⟩, Hw, Hb⟩, ⟨%W, %hW, Ho⟩, ⟨%d0, %g0, %hg0, Hx⟩, ⟨%d1, %g1, %hg1, Hout⟩⟩
  have hx : g0 = xstg m ρ c := by rw [hg0]; unfold Dat.before; rw [if_pos (fetch_0 t₀)]; rfl
  subst hx
  ihave Hd := (Entails.of_eq (deal m c)) $$ [Hw Hb Hout]
  · isplitl [Hw]; · iexact Hw
    isplitl [Hb]; · iexact Hb
    iexists g1; iapply (Entails.of_eq (out_at c g1).symm); iexact Hout
  icases Hd with ⟨Hg, Hk⟩
  iapply (sound_body m ρ K c fun _ => bodyPost m ρ c) $$ [] [Hx] [Ho] Hlin Hcr Hg Hk
  · unfold ctx records
    isplitl; · iexact HR
    iexact HL
  · iapply (Entails.of_eq (x_at m ρ c).symm); iexact Hx
  · iexists W; iexact Ho
  iapply hpost

/-! ## Cells and tokens -/

/-- The kernel's own semaphores are scoped, distinct, and none of the windows'. -/
theorem ownSemFacts : Pipeline.OwnSemFacts cfg0.spec osem := by decide

/-- Every window's buffer is held whole. -/
theorem share_eq (c : Dev nD) (w : Fin cfg0.W) : (dats m ρ 0 c).share w = fullShare := by unfold Dat.share; split <;> rfl

/-- Different numbers name different semaphores, -/
theorem osem_injective : Function.Injective osem := ownSemFacts.inj

/-- and different devices or members name different cells. -/
theorem kcell_injective : Function.Injective (kcell : Dev nD × CIx → GSem nD τ sig) := by
  rintro ⟨c, i⟩ ⟨c', i'⟩ h
  have hc : c = c' := by
    rcases i with _ | j <;> rcases i' with _ | j' <;> exact congrArg (fun g : GSem nD τ sig => g.1.1) h
  subst hc
  rcases i with _ | j <;> rcases i' with _ | j'
  · rfl
  · exact absurd (congrArg Prod.snd h) (fun e => by cases e)
  · exact absurd (congrArg Prod.snd h) (fun e => by cases e)
  · rw [osem_injective (congrArg Prod.snd h)]

/-- Every semaphore of the kernel, on every device. -/
def cubeCells : Finset (GSem nD τ sig) := Finset.univ.map ⟨kcell, kcell_injective⟩

/-- The duty tokens of a device's own cells: three of its barrier cell, one of each other. -/
abbrev tokOf (i : Dev nD × (Fin 3 ⊕ Fin 72)) : GSem nD τ sig × ℕ × Fin 3 := match i.2 with
  | .inl d => (barCell i.1, 0, d)
  | .inr j => (((i.1 : Thread nD τ), osem j), 0, 0)

/-- Different members name different tokens. -/
theorem tokOf_injective : Function.Injective (tokOf : Dev nD × (Fin 3 ⊕ Fin 72) → GSem nD τ sig × ℕ × Fin 3) := by
  rintro ⟨c, i⟩ ⟨c', i'⟩ h
  have hc : c = c' := by
    rcases i with _ | j <;> rcases i' with _ | j' <;> exact congrArg (fun g : GSem nD τ sig × ℕ × Fin 3 => g.1.1.1) h
  subst hc
  rcases i with d | j <;> rcases i' with d' | j'
  · rw [show d = d' from congrArg (fun g : GSem nD τ sig × ℕ × Fin 3 => g.2.2) h]
  · exact absurd (congrArg (fun g : GSem nD τ sig × ℕ × Fin 3 => g.1.2) h) (fun e => by cases e)
  · exact absurd (congrArg (fun g : GSem nD τ sig × ℕ × Fin 3 => g.1.2) h) (fun e => by cases e)
  · rw [osem_injective (congrArg (fun g : GSem nD τ sig × ℕ × Fin 3 => g.1.2) h)]

/-- Every duty token of the kernel. -/
def cubeToks : Finset (GSem nD τ sig × ℕ × Fin 3) := Finset.univ.map ⟨tokOf, tokOf_injective⟩

/-- The ghost state at launch: the windows' and the kernel's. -/
def u₀ : UU := (initOf (Pipeline.cells cfgs cellOf_inj) (Pipeline.launchToks cfgs cellOf_inj), initOf cubeCells cubeToks)

/-- The tokens of device `c`'s own cells. -/
def ownToks (c : Dev nD) : sProp 𝕄 :=
  iprop((bigSep Finset.univ fun d : Fin 3 => dutyTok ER (barCell c) 0 d)
    ∗ bigSep Finset.univ fun j : Fin 72 => dutyTok ER ((c : Thread nD τ), osem j) 0 0)

/-- What the launch deals device `c`. -/
def G (c : Dev nD) : sProp 𝕄 :=
  iprop((bigSep Finset.univ fun i : CIx => roundState ER (Rd m ρ) (kcell (c, i)) 0)
    ∗ (bigSep Finset.univ fun i : CIx => iprop(atPos ER (kcell (c, i)) 0 ∅ 0 ∗ reached ER (kcell (c, i)) 0)) ∗ ownToks c)

/-- What it has after the cells are set up. -/
def G' (c : Dev nD) : sProp 𝕄 := iprop(∃ K, records m ρ K ∗ linear c)

/-- The kernel's ghost state at launch is what every device is dealt. -/
theorem fund : BI.own (ER (initOf cubeCells cubeToks)) ⊢ (|==> bigSep Finset.univ (G m ρ) : sProp 𝕄) := by
  have hX (Φ : GSem nD τ sig → sProp 𝕄) : bigSep cubeCells Φ = bigSep Finset.univ fun c : Dev nD => bigSep Finset.univ fun i : CIx => Φ (kcell (c, i)) := by
    unfold cubeCells; rw [bigSep_map, bigSep_univ_prod]; rfl
  have hT : bigSep cubeToks (fun x => (dutyTok ER x.1 x.2.1 x.2.2 : sProp 𝕄)) = bigSep Finset.univ fun c : Dev nD => ownToks c := by
    unfold cubeToks; rw [bigSep_map, bigSep_univ_prod]
    exact bigSep_congr fun c _ => by unfold ownToks; rw [bigSep_univ_sum]; rfl
  iintro HX
  imod (Rounds.fund ER (Rd m ρ) cubeCells cubeToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The only semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells: its barrier cell's and the others'. -/
theorem by_cell (Φ : CIx → sProp 𝕄) : bigSep Finset.univ Φ = iprop(Φ (.inl ()) ∗ bigSep Finset.univ fun j : Fin 72 => Φ (.inr j)) := by
  rw [bigSep_univ_sum, Finset.univ_unique, bigSep_singleton]; rfl

/-- A device's counters at zero, with what it is dealt, set up its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CIx => iprop(∃ κ : ℕ, cellInv ER (Rd m ρ) κ (kcell (c, i))))
          ∗ (bigSep Finset.univ fun i : CIx => iprop(atPos ER (kcell (c, i)) 0 ∅ 0 ∗ reached ER (kcell (c, i)) 0)) ∗ ownToks c) := by
  have hv : iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
    rw [by_cell, unscopedSems0_eq]; exact sep_symm
  unfold G
  iintro ⟨Hos, Hus, Hst, Hat, Htok⟩
  ihave Hv := hv $$ [Hos Hus]
  · isplitl [Hos] <;> iassumption
  imod (show iprop((bigSep Finset.univ fun i : CIx => semVal (kcell (c, i)) 0) ∗ bigSep Finset.univ fun i : CIx => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Semaphores by exchange -/

/-- The 72 semaphores: a send and a receive semaphore for every part and stage. -/
def exchanges : (Fin 6 × Fin 6) ⊕ (Fin 6 × Fin 6) ≃ Fin 72 where
  toFun := Sum.elim (fun e => sIdx e.2 e.1) fun e => rIdx e.2 e.1
  invFun j := if j.val < 36 then .inl (Fin.ofNat 6 (j.val % 6), Fin.ofNat 6 (j.val / 6)) else .inr (Fin.ofNat 6 (j.val % 6), Fin.ofNat 6 ((j.val - 36) / 6))
  left_inv := by decide
  right_inv := by decide +kernel

/-- A family over the 72 semaphores: the send semaphores' and the receive semaphores'. -/
theorem by_exchange (Φ : Fin 72 → sProp 𝕄) :
    bigSep Finset.univ Φ = iprop((bigSep Finset.univ fun p => bigSep Finset.univ fun st => Φ (sIdx st p))
      ∗ bigSep Finset.univ fun p => bigSep Finset.univ fun st => Φ (rIdx st p)) := by
  rw [bigSep_univ_equiv exchanges Φ, bigSep_univ_sum, bigSep_univ_prod, bigSep_univ_prod]; rfl

/-- A family over the devices and the members of a type, each member's moved along a permutation of the devices. -/
theorem turn {J : Type} [Fintype J] (e : J → Dev nD ≃ Dev nD) (Φ : Dev nD → J → sProp 𝕄) :
    (bigSep Finset.univ fun c => bigSep Finset.univ (Φ c)) = bigSep Finset.univ fun c => bigSep Finset.univ fun j => Φ (e j c) j := by
  rw [bigSep_univ_comm, bigSep_congr fun j _ => bigSep_univ_equiv (e j) fun c => Φ c j, bigSep_univ_comm]

/-- The tokens of every device's cells, in the hands of the devices that pay them. -/
theorem deal_toks :
    iprop((bigSep Finset.univ fun c : Dev nD => bigSep Finset.univ fun i : CIx => (atPos ER (kcell (c, i)) 0 ∅ 0 : sProp 𝕄))
        ∗ bigSep Finset.univ fun c : Dev nD => ownToks (F := F) c)
      = bigSep Finset.univ fun c : Dev nD => linear (F := F) c := by
  have h1 := turn (F := F) around fun c d => dutyTok ER (barCell c) 0 d
  have h2 := turn (F := F) (fun e : Fin 6 × Fin 6 => around (ord e.1 (lvl e.2))) fun c e => dutyTok ER (recvCell c e.2 e.1) 0 0
  simp only [bigSep_univ_prod] at h2
  have h3 (c : Dev nD) : (bigSep Finset.univ fun i : CIx => (atPos ER (kcell (c, i)) 0 ∅ 0 : sProp 𝕄))
      = iprop(atPos ER (barCell c) 0 ∅ 0 ∗ (bigSep Finset.univ fun p => bigSep Finset.univ fun st => atPos ER (sendCell c st p) 0 ∅ 0)
        ∗ bigSep Finset.univ fun p => bigSep Finset.univ fun st => atPos ER (recvCell c st p) 0 ∅ 0) := by
    rw [by_cell, by_exchange]; rfl
  have h4 (c : Dev nD) : ownToks (F := F) c = iprop((bigSep Finset.univ fun d : Fin 3 => dutyTok ER (barCell c) 0 d)
      ∗ (bigSep Finset.univ fun p => bigSep Finset.univ fun st => dutyTok ER (sendCell c st p) 0 0)
        ∗ bigSep Finset.univ fun p => bigSep Finset.univ fun st => dutyTok ER (recvCell c st p) 0 0) := by
    unfold ownToks; rw [by_exchange]
  rw [bigSep_congr fun c _ => h3 c, bigSep_congr fun c _ => h4 c]
  unfold linear toks
  simp only [bigSep_sep']
  rw [h1, h2]
  have shuffle (A B C D E H : sProp 𝕄) : iprop((A ∗ B ∗ C) ∗ D ∗ E ∗ H) = iprop(A ∗ D ∗ B ∗ C ∗ E ∗ H) := by ac_rfl
  exact shuffle _ _ _ _ _ _

/-- What holds of each member given a fact that can be reused holds of all of them given that fact. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After the cells are set up every device has the records of all cells, and the tokens of the duties it pays. -/
theorem regroup :
    (bigSep Finset.univ fun c : Dev nD => iprop((bigSep Finset.univ fun i : CIx => iprop(∃ κ : ℕ, cellInv ER (Rd m ρ) κ (kcell (c, i))))
          ∗ (bigSep Finset.univ fun i : CIx => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun i : Dev nD × CIx => iprop(∃ κ : ℕ, cellInv ER (Rd m ρ) κ (kcell i))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun i : Dev nD × CIx => (reached ER (kcell i) 0 : sProp 𝕄))]
  iintro ⟨HI, ⟨Hat, #HR⟩, Htok⟩
  ihave HK := (BI.bigSep_exists_pi Finset.univ (fun (i : Dev nD × CIx) (κ : ℕ) => (cellInv ER (Rd m ρ) κ (kcell i) : sProp 𝕄))) $$ HI
  icases HK with ⟨%K, #HI⟩
  ihave Hlin := (Entails.of_eq (deal_toks (F := F))) $$ [Hat Htok]
  · isplitl [Hat] <;> iassumption
  iapply (bigSep_with (R := records m ρ K) (Φ := fun c => linear c) fun c _ => show iprop(records m ρ K ∗ linear c) ⊢ G' m ρ c from by
    unfold G'; iintro ⟨H1, H2⟩; iexists K; isplitl [H1] <;> iassumption)
  isplitr
  · iapply (Entails.of_eq (show iprop((bigSep Finset.univ fun i : Dev nD × CIx => cellInv ER (Rd m ρ) (K i) (kcell i))
        ∗ bigSep Finset.univ fun i : Dev nD × CIx => reached ER (kcell i) 0) = records m ρ K from by unfold records; rw [bigSep_sep']))
    isplitl; · iexact HI
    iexact HR
  · iexact Hlin

/-- So all devices' counters at zero, with what they are dealt, set up the whole kernel. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barrier cells are equal when their devices are. -/
theorem bar_eq_iff {a b : Dev nD} : barCell a = barCell b ↔ a = b := ⟨fun h => congrArg (fun g : GSem nD τ sig => g.1.1) h, fun h => h ▸ rfl⟩

/-- A receive cell is no barrier cell. -/
theorem recv_ne_bar (a b : Dev nD) (st p : Fin 6) : recvCell a st p ≠ barCell b := fun h => by cases congrArg Prod.snd h

/-- Receive cells are equal when their devices, stages and parts are. -/
theorem recv_eq_iff {a b : Dev nD} {st p st' p' : Fin 6} : recvCell a st p = recvCell b st' p' ↔ a = b ∧ (st, p) = (st', p') := by
  constructor
  · intro h
    refine ⟨congrArg (fun g : GSem nD τ sig => g.1.1) h, ?_⟩
    have := osem_injective (congrArg Prod.snd h)
    rw [← xch_recv st p, ← xch_recv st' p']
    simp only [this]
  · rintro ⟨rfl, h⟩; cases h; rfl

/-- Exchanges owe nothing to a barrier cell. -/
theorem owed_bar_zero (d c : Dev nD) (l : List (Fin 6 × Fin 6)) : owed d l (barCell c) () = 0 := by
  by_contra h
  obtain ⟨e, _, he⟩ := owed_pos (Nat.pos_of_ne_zero h)
  exact recv_ne_bar _ _ _ _ he.symm

/-- What a list of exchanges owes a receive cell: that exchange's credit, if it is among them and goes there. -/
theorem owed_at (d c : Dev nD) (st p : Fin 6) : ∀ l : List (Fin 6 × Fin 6), l.Nodup →
    owed d l (recvCell c st p) () = if (st, p) ∈ l ∧ d = nb st p c then amt st p else 0
  | [], _ => rfl
  | e :: l, hl => by
    obtain ⟨he, hl⟩ := List.nodup_cons.mp hl
    show (owed d l + tallyAt (recvCell (nb e.1 e.2 d) e.1 e.2) () (amt e.1 e.2)) (recvCell c st p) () = _
    rw [Pi.add_apply, Finsupp.add_apply, owed_at d c st p l hl, tallyAt_apply]
    by_cases hs : (st, p) = e
    · subst hs
      rw [if_neg fun h => he h.1, zero_add]
      refine if_congr ?_ rfl rfl
      rw [recv_eq_iff]
      constructor
      · rintro ⟨⟨h, _⟩, _⟩; exact ⟨List.mem_cons_self, by rw [h, nb_nb]⟩
      · rintro ⟨_, h⟩; exact ⟨⟨by rw [h, nb_nb], rfl⟩, rfl⟩
    · rw [if_neg (c := _ ∧ () = ()) (fun h => hs (recv_eq_iff.mp h.1).2), add_zero]
      refine if_congr ?_ rfl rfl
      rw [List.mem_cons, or_iff_right hs]

/-- No exchange is scheduled twice, -/
theorem sched_nodup : sched.Nodup := by decide
/-- and each is scheduled. -/
theorem mem_sched (st p : Fin 6) : (st, p) ∈ sched := by revert st p; decide

/-- All devices together owe a barrier cell three units -/
theorem launch_bar (c : Dev nD) :
    tallyOn (barCell c) (launchCredit (Pipeline.owing O₀) 0 (barCell c)) = (tallyAt (barCell c) () 3 : CellTallies nD τ sig Unit) := by
  have h (d : Dev nD) : O₀ d (barCell c) () = (if d = peer 2 c then 1 else 0) + (if d = peer 1 c then 1 else 0) + (if d = peer 0 c then 1 else 0) := by
    have hk (k : Fin 3) : (if barCell c = barCell (peer k d) ∧ () = () then 1 else 0) = if d = peer k c then 1 else 0 :=
      if_congr ⟨fun h => by rw [bar_eq_iff.mp h.1, peer_peer], fun h => ⟨by rw [h, peer_peer], rfl⟩⟩ rfl rfl
    unfold O₀ O₂ O₁
    rw [Pi.add_apply, Finsupp.add_apply, Pi.add_apply, Finsupp.add_apply, Pi.add_apply, Finsupp.add_apply, owed_bar_zero, tallyAt_apply, tallyAt_apply, tallyAt_apply,
      hk, hk, hk, zero_add]
  unfold tallyAt; refine congrArg _ (Finsupp.ext fun u => ?_); cases u
  rw [Pipeline.launchCredit_owing, Finsupp.single_eq_same, Finset.sum_congr rfl fun d _ => h d, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

/-- and a receive cell its exchange's credit. -/
theorem launch_recv (c : Dev nD) (st p : Fin 6) :
    tallyOn (recvCell c st p) (launchCredit (Pipeline.owing O₀) 0 (recvCell c st p)) = (tallyAt (recvCell c st p) () (amt st p) : CellTallies nD τ sig Unit) := by
  have h (d : Dev nD) : O₀ d (recvCell c st p) () = if d = nb st p c then amt st p else 0 := by
    unfold O₀ O₂ O₁
    rw [Pi.add_apply, Finsupp.add_apply, Pi.add_apply, Finsupp.add_apply, Pi.add_apply, Finsupp.add_apply, tallyAt_ne_cell (recv_ne_bar _ _ _ _),
      tallyAt_ne_cell (recv_ne_bar _ _ _ _), tallyAt_ne_cell (recv_ne_bar _ _ _ _), owed_at d c st p sched sched_nodup]
    simp only [Finsupp.zero_apply, add_zero, mem_sched, true_and]
  unfold tallyAt; refine congrArg _ (Finsupp.ext fun u => ?_); cases u
  rw [Pipeline.launchCredit_owing, Finsupp.single_eq_same, Finset.sum_congr rfl fun d _ => h d, Finset.sum_ite_eq' Finset.univ (nb st p c) fun _ => amt st p,
    if_pos (Finset.mem_univ _)]

/-- The semaphores a device holds launch credit of. -/
def credSem : Unit ⊕ (Fin 6 × Fin 6) ↪ SemLoc sig where
  toFun := Sum.elim (fun _ => .reg barS) fun e => osem (rIdx e.2 e.1)
  inj' := by decide +kernel

/-- So at launch a device holds the credits it waits for. -/
theorem creds (c : Dev nD) : (Pipeline.launchCred O₀ c : sProp 𝕄) ⊢ credits c := by
  unfold Pipeline.launchCred credits
  have h : (bigSep (Finset.univ.map credSem) fun sm => cred (tallyOn ((c : Thread nD τ), sm) (launchCredit (Pipeline.owing O₀) 0 ((c : Thread nD τ), sm))) : sProp 𝕄)
      = iprop(cred (tallyAt (barCell c) () 3) ∗ bigSep Finset.univ fun p => bigSep Finset.univ fun st => cred (tallyAt (recvCell c st p) () (amt st p))) := by
    rw [bigSep_map, bigSep_univ_sum, bigSep_univ_prod, Finset.univ_unique, bigSep_singleton]
    refine congrArg₂ (fun A B : sProp 𝕄 => iprop(A ∗ B)) (congrArg cred (launch_bar c)) ?_
    exact bigSep_congr fun p _ => bigSep_congr fun st _ => congrArg cred (launch_recv c st p)
  rw [← h]
  exact bigSep_subset (Finset.subset_univ _)

/-! ## The run -/

/-- What the launch gives a device is what its body begins with, -/
theorem begins_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begins m ρ c ∗ emp) := by
  iintro ⟨-, Hlev, Hcr, -, HG⟩
  ihave Hc := (creds (F := F) c) $$ Hcr
  imodintro
  unfold begins G'
  isplitl
  · isplitl [HG]; · iexact HG
    isplitl [Hc]; · iexact Hc
    iexact Hlev
  · iempintro

/-- with the scratch buffers; -/
theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hw, Hb⟩
  isplitl [Hs]; · iexact Hs
  isplitl [Hw]; · iexact Hw
  iexact Hb

/-- and what the body ends with is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  have hf : (bigSep Finset.univ fun p => bigSep Finset.univ fun st => fin (F := F) c st p) = Pipeline.ownSems0 osem c := by
    unfold fin Pipeline.ownSems0
    rw [by_exchange]; simp only [bigSep_sep']
  rw [show (dats m ρ 0 c).Φ (Fin.last cfg0.N) = Φ₁ c from rfl, scopedRest0_eq, unscopedSems0_eq, ← hf]
  unfold Φ₁
  iintro ⟨Hw, Hb, Hf, Hv⟩
  isplitl [Hv]; · iexact Hv
  isplitl [Hf]; · iexact Hf
  isplitl [Hw]; · iexact Hw
  iexact Hb

/-- The windows' waits come below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

set_option maxRecDepth 100000 in
/-- From any memory with zero counters, every run of the kernel on the eight devices ends, with every device's arrays at
    the computed contents and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := begins m ρ) (Y := fun c => unscopedSems0 c) (Z := fun _ => iprop(emp))
    (hX := begins_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Cube
-- ==== Proof.Value.lean ====
/-
# What the kernel computes

Over the extended reals the result on every device is the sum of the eight devices' blocks: the exchanges add, level by
level, the values of two, four, then all eight devices.
-/
module

public import proofs.«01_k».proof.Proof.KernelIdeal.Launch
public import Idealize.ShloMosaic.Lib.Pipeline.ValueKit

@[expose] public section

noncomputable section

namespace Cert.Cube

open Idealize.ShloMosaic
open Idealize.ShloMosaic.ValueIdx

/-- The devices whose values device `c` has added of part `p` after `k` levels. -/
def near (p : Fin 6) : ℕ → Fin 8 → Finset (Fin 8)
  | 0, c => {c}
  | k + 1, c => near p k c ∪ near p k (peer (ord p (Fin.ofNat 3 k)) c)

/-- A device and its next neighbour have added the values of different devices. -/
theorem near_disjoint (p : Fin 6) (k : Fin 3) (c : Fin 8) : Disjoint (near p k.val c) (near p k.val (peer (ord p (Fin.ofNat 3 k.val)) c)) := by
  revert p k c; decide +kernel

/-- After three levels all devices' values have been added. -/
theorem near_all (p : Fin 6) (c : Fin 8) : near p 3 c = Finset.univ := by revert p c; decide +kernel

section Sums
variable {α : Type} [AddCommMonoid α] (x : Fin 8 → (Sh 1024).Idx → α)

/-- What device `c` holds after `k` levels is the sum over those devices. -/
theorem acc_near (p : Fin 6) (i : (Sh 1024).Idx) : ∀ k : ℕ, k ≤ 3 → ∀ c, acc (· + ·) x p k c i = ∑ d ∈ near p k c, x d i
  | 0, _, c => (Finset.sum_singleton (fun d => x d i) c).symm
  | k + 1, hk, c => by
    show acc (· + ·) x p k c i + acc (· + ·) x p k (peer (ord p (Fin.ofNat 3 k)) c) i = ∑ d ∈ near p k c ∪ near p k (peer (ord p (Fin.ofNat 3 k)) c), x d i
    rw [Finset.sum_union (near_disjoint p ⟨k, hk⟩ c), acc_near p i k (Nat.le_of_succ_le hk), acc_near p i k (Nat.le_of_succ_le hk)]

/-- Every index is in the eighth of some part that some device keeps to the end. -/
theorem eighth_exists (i : (Sh 1024).Idx) : ∃ (p : Fin 6) (c : Fin 8), i ∈ reg c p 2 := by
  obtain ⟨p, -, hp⟩ := Finset.mem_biUnion.mp (part_cover ▸ Finset.mem_univ i)
  have h0 : ∃ c, i ∈ reg c p 0 := by
    rw [part_split 0 p, Finset.mem_union] at hp
    exact hp.elim (fun h => ⟨_, h⟩) fun h => ⟨_, h⟩
  have next (s : Fin 2) : (∃ c, i ∈ reg c p s.castSucc) → ∃ c, i ∈ reg c p s.succ := by
    rintro ⟨c, h⟩
    rw [reg_split c p s, Finset.mem_union] at h
    exact h.elim (fun h => ⟨_, h⟩) fun h => ⟨_, h⟩
  exact ⟨p, next 1 (next 0 h0)⟩

/-- The result is the sum over all devices. -/
theorem total_sum (i : (Sh 1024).Idx) : total (· + ·) x i = ∑ d, x d i := by
  obtain ⟨p, c, h⟩ := eighth_exists i
  rw [total_eq _ _ p c i h, acc_near x p i 3 le_rfl c, near_all]

end Sums
end Cert.Cube

namespace Cert.KernelIdeal.Cube

open Cert.Cube
open Cert.KernelIdeal Cert.KernelIdeal.Gen
open Idealize.ShloMosaic
open Idealize.ShloMosaic.TcCoe
open Idealize.ShloMosaic.ValueIdx
open Idealize.SL.Sem
open Idealize.ShloMosaic.Pipeline (Dat)

section Arrays
variable {F : FTy → Type} [FloatOps F]
variable (m : (ℓ : Loc nD τ sig) → Buf (Elt F) ℓ) (ρ : Dev nD → PrngReg)

/-- The result array ends with the computed contents. -/
theorem finalA_out (c : Dev nD) : finalA m ρ c (1 : Fin 2) = outC m ρ :=
  (dats m ρ 0 c).arrAt_eq_of_after_last 1 t₀ (by decide +kernel) _ fun j => by
    show outC m ρ _ = outC m ρ _
    congr 1

/-- The staged block is the argument, element by element. -/
theorem xstg_apply (c : Dev nD) (j : S1x1024x1024.Idx) : xstg m ρ c j = m ((c : Thread nD τ).loc main_arg0) j := by
  unfold xstg
  rw [View.read_apply]
  show m ((c : Thread nD τ).loc main_arg0) _ = _
  refine congrArg (m ((c : Thread nD τ).loc main_arg0)) (funext fun a => Fin.ext ?_)
  refine (Pipeline.Window.rect_emb_val win0_0 (0 : Fin 1) j a).trans ?_
  fin_cases a <;> exact Nat.zero_add _

end Arrays

/-- Device `c`'s block at a row and a column. -/
def block (m : (ℓ : Loc nD τ sig) → Buf (Elt Ideal) ℓ) (c : Fin 8) (i : (Sh 1024).Idx) : EReal :=
  m ((c : Thread nD τ).loc main_arg0) (Idealize.ShloMosaic.ValueIdx.ix3 (0 : Fin 1) (i 0 : Fin 1024) (i 1 : Fin 1024))

/-- The kernel's input at a device is that device's block. -/
theorem xin_block (m : (ℓ : Loc nD τ sig) → Buf (Elt Ideal) ℓ) (ρ : Dev nD → PrngReg) : xin (F := Ideal) m ρ = block m :=
  funext fun c => funext fun i => xstg_apply m ρ c _

/-- At the ideal instance the result is the sum of the eight blocks. -/
theorem outC_sum (m : (ℓ : Loc nD τ sig) → Buf (Elt Ideal) ℓ) (ρ : Dev nD → PrngReg) (i : (Sh 1024).Idx) :
    outC (F := Ideal) m ρ i = (∑ c : Fin 8, block m c i : EReal) := by
  unfold outC
  rw [xin_block]
  exact total_sum (α := EReal) (block m) i

end Cert.KernelIdeal.Cube
-- ==== Proof.Reference.lean ====
/-
# The two programs agree

The reference's result is the sum of the array's eight blocks, which is what the kernel leaves on every device.
-/
module

public import proofs.«01_k».proof.Proof.Value
public import proofs.«01_k».proof.Proof.Gen.ReferenceIdeal.Run
public import Idealize.ShloMosaic.Lib.Pointwise
public import Idealize.ShloMosaic.Lib.Layout

@[expose] public section

noncomputable section

namespace Cert.ReferenceIdeal.Cube

open Cert.Cube
open Cert.ReferenceIdeal Cert.ReferenceIdeal.Gen
open Idealize.ShloMosaic
open Idealize.ShloMosaic.TcCoe

/-- The whole array. -/
abbrev Whole : Type := S8x1024x1024.Idx → Elt Ideal .bf16

/-- The reference's result. -/
def result (X : Whole) : S1024x1024.Idx → Elt Ideal .bf16 :=
  truncf (F := Ideal) .bf16 (Host.reduceAdd (extf .f32 X bitsLt_bf16_f32) (constant S_ .f32 0x00000000#32) reducesTo_S8x1024x1024_S1024x1024_d0 h_S_) bitsLt_bf16_f32

/-- The array's element in block `c`. -/
def entry (X : Whole) (c : Fin 8) (i : (Sh 1024).Idx) : EReal :=
  X (ValueIdx.ix3 c (i 0 : Fin 1024) (i 1 : Fin 1024))

/-- The reference's result is the sum of the array's eight blocks. -/
theorem result_sum (X : Whole) (i : S1024x1024.Idx) : result X i = (∑ c : Fin 8, entry X c i : EReal) := by
  unfold result
  simp only [pointwise]
  exact zero_add _

/-- A device that holds its block of the array holds the array's elements of that block. -/
theorem block_entry (X : Whole) (m : (ℓ : Loc Cert.KernelIdeal.nD Cert.KernelIdeal.τ Cert.KernelIdeal.sig) → Buf (Elt Ideal) ℓ)
    (h : ∀ c : Dev Cert.KernelIdeal.nD, m ((c.tc : Thread Cert.KernelIdeal.nD Cert.KernelIdeal.τ).loc Cert.KernelIdeal.main_arg0)
      = Layout.block ⟨3, ![1, 1024, 1024]⟩ ⟨3, ![8, 1024, 1024]⟩ 0 8 c X) (c : Fin 8) (i : (Sh 1024).Idx) :
    Cert.KernelIdeal.Cube.block m c i = entry X c i := by
  unfold Cert.KernelIdeal.Cube.block entry
  rw [h c, Layout.block_apply]
  refine congrArg X (funext fun a => Fin.ext ?_)
  rw [Layout.Tiles.idx_val]
  fin_cases a
  · show c.val * 1 + 0 = c.val
    omega
  · rfl
  · rfl

end Cert.ReferenceIdeal.Cube
-- ==== Proof.lean ====
/-
# The claims

The kernel, on eight devices, sums the devices' blocks of an array by recursive halving and doubling: three exchanges out
with the three neighbours, each over half of what the one before covered, and the same exchanges back. Its run is
followed in `Proof/Kernel` (and, word for word, at the ideal instance in `Proof/KernelIdeal`); `Proof/Value` says that it
leaves the sum on every device, `Proof/Reference` that this is what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's runs end, with the argument unchanged and every counter at zero. -/
theorem frame_kernel : Cert.quiescent_Kernel := fun m g _ =>
  (θ_run Cert.Kernel.defs _ _).mono (fun _ h => ⟨fun c => (h.1 c 0).trans (Cert.Kernel.Cube.finalA_arg m g c), h.2⟩)
    (Cert.Kernel.Cube.run_main (F := Bits) m g)

/-- So do those of its idealization. -/
theorem frame_kernelIdeal : Cert.quiescent_KernelIdeal := fun m g _ =>
  (θ_run Cert.KernelIdeal.defs _ _).mono (fun _ h => ⟨fun c => (h.1 c 0).trans (Cert.KernelIdeal.Cube.finalA_arg m g c), h.2⟩)
    (Cert.KernelIdeal.Cube.run_main (F := Ideal) m g)

/-- And the reference's, which uses no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From blocks of one array the kernel leaves on every device what the reference leaves on its one: the sum of the
    blocks. -/
theorem same_sum : Cert.algebraic_KernelIdeal_ReferenceIdeal := by
  intro m g m' g' _ hagree
  let X : Cert.ReferenceIdeal.Cube.Whole := m' (((0 : Dev Cert.ReferenceIdeal.nD).tc : Thread Cert.ReferenceIdeal.nD Cert.ReferenceIdeal.τ).loc Cert.ReferenceIdeal.main_arg0)
  have hv : Cert.KernelIdeal.Cube.outC (F := Ideal) m g = Cert.ReferenceIdeal.Cube.result X := funext fun i =>
    (Cert.KernelIdeal.Cube.outC_sum m g i).trans <|
      (Finset.sum_congr rfl fun c _ => Cert.ReferenceIdeal.Cube.block_entry X m hagree c i).trans (Cert.ReferenceIdeal.Cube.result_sum X i).symm
  refine ⟨Cert.ReferenceIdeal.Cube.result X, ?_, ?_⟩
  · exact (θ_run Cert.KernelIdeal.defs _ _).mono
      (fun _ h c => ⟨((h.1 c 1).trans (Cert.KernelIdeal.Cube.finalA_out m g c)).trans hv, (h.1 c 0).trans (Cert.KernelIdeal.Cube.finalA_arg m g c)⟩)
      (Cert.KernelIdeal.Cube.run_main (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, same_sum⟩

end Cert.Proof

end
